-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 2048]⟩ ⟨2, ![4096, 2048]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S2048 : Shape := ⟨1, ![2048]⟩
abbrev S2048x2048 : Shape := ⟨2, ![2048, 2048]⟩
abbrev S704x2048 : Shape := ⟨2, ![704, 2048]⟩
abbrev S9 : Shape := ⟨1, ![9]⟩
abbrev S_ : Shape := ⟨0, ![]⟩
abbrev S2x8 : Shape := ⟨2, ![2, 8]⟩
abbrev S2 : Shape := ⟨1, ![2]⟩
abbrev S2x3 : Shape := ⟨2, ![2, 3]⟩
abbrev S2x2 : Shape := ⟨2, ![2, 2]⟩
abbrev S1x2048x2048 : Shape := ⟨3, ![1, 2048, 2048]⟩
abbrev S1 : Shape := ⟨1, ![1]⟩
abbrev S64x2048 : Shape := ⟨2, ![64, 2048]⟩
abbrev S1x64x2048 : Shape := ⟨3, ![1, 64, 2048]⟩
abbrev S192x2048 : Shape := ⟨2, ![192, 2048]⟩
abbrev S1x192x2048 : Shape := ⟨3, ![1, 192, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1x2048 : Shape := ⟨2, ![1, 2048]⟩

abbrev nBuf : Space → Nat
  | .hbm => 3
  | .vmem => 5
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S2048x2048, .f32⟩
  | .local _ .vmem, ⟨0, _⟩ => ⟨S2048, .f32⟩
  | .local _ .vmem, ⟨1, _⟩ => ⟨S2048x2048, .f32⟩
  | .local _ .vmem, ⟨2, _⟩ => ⟨S704x2048, .f32⟩
  | .local _ .vmem, ⟨3, _⟩ => ⟨S704x2048, .bf16⟩
  | .local _ .vmem, ⟨4, _⟩ => ⟨S2048x2048, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v24 : BitVec 32 := Scalar.muli v2 c2048_i32
  let c0_i32_16 : BitVec 32 := 0#32
  ![0, v24.toNat, 0]
def k0_off2 (d0 : Dev nD) (c192_i32 : BitVec 32) : Fin 3 → Nat :=
  let c0_i32_26 : BitVec 32 := 0#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_14 v2
  let c2048_i32_15 : BitVec 32 := 2048#32
  let v26 : BitVec 32 := Scalar.muli v25 c2048_i32_15
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c512_i32 : BitVec 32 := 512#32
  let v29 : BitVec 32 := Scalar.muli v10 c512_i32
  let v30 : BitVec 32 := Scalar.addi v26 v29
  let v31 : BitVec 32 := Scalar.addi v30 c192_i32
  let c0_i32_30 : BitVec 32 := 0#32
  ![0, v31.toNat, 0]
def k0_off3 (d0 : Dev nD) : Fin 3 → Nat :=
  let c0_i32_62 : BitVec 32 := 0#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_14 v2
  let c2048_i32_15 : BitVec 32 := 2048#32
  let v26 : BitVec 32 := Scalar.muli v25 c2048_i32_15
  let c2_i32_9 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.muli c2_i32_9 v17
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c512_i32_25 : BitVec 32 := 512#32
  let v53 : BitVec 32 := Scalar.muli v20 c512_i32_25
  let v54 : BitVec 32 := Scalar.addi v26 v53
  let c0_i32_65 : BitVec 32 := 0#32
  ![0, v54.toNat, 0]
def k0_dev1 (d0 : Dev nD) : Nat :=
  let c0_i32_68 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_67 : BitVec 32 := 4#32
  let v101 : BitVec 32 := Scalar.muli v21 c4_i32_67
  let v102 : BitVec 32 := Scalar.addi c0_i32_68 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v103 : BitVec 32 := Scalar.muli v5 c2_i32_69
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v105 : BitVec 32 := Scalar.muli v8 c1_i32_70
  let v106 : BitVec 32 := Scalar.addi v104 v105
  v106.toNat
def k0_dev2 (d0 : Dev nD) : Nat :=
  let c0_i32_73 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_72 : BitVec 32 := 4#32
  let v107 : BitVec 32 := Scalar.muli v2 c4_i32_72
  let v108 : BitVec 32 := Scalar.addi c0_i32_73 v107
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_74 : BitVec 32 := 2#32
  let v109 : BitVec 32 := Scalar.muli v22 c2_i32_74
  let v110 : BitVec 32 := Scalar.addi v108 v109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v111 : BitVec 32 := Scalar.muli v8 c1_i32_75
  let v112 : BitVec 32 := Scalar.addi v110 v111
  v112.toNat
def k0_dev3 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_77 : BitVec 32 := 4#32
  let v113 : BitVec 32 := Scalar.muli v2 c4_i32_77
  let v114 : BitVec 32 := Scalar.addi c0_i32_78 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v115 : BitVec 32 := Scalar.muli v5 c2_i32_79
  let v116 : BitVec 32 := Scalar.addi v114 v115
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_80 : BitVec 32 := 1#32
  let v117 : BitVec 32 := Scalar.muli v23 c1_i32_80
  let v118 : BitVec 32 := Scalar.addi v116 v117
  v118.toNat
def k0_off4 (d0 : Dev nD) (c192_i32_83 : BitVec 32) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c512_i32_82 : BitVec 32 := 512#32
  let v119 : BitVec 32 := Scalar.muli v10 c512_i32_82
  let v120 : BitVec 32 := Scalar.addi v119 c192_i32_83
  let c0_i32_284 : BitVec 32 := 0#32
  ![v120.toNat, 0]
def k0_dev4 (d0 : Dev nD) : Nat :=
  let c0_i32_281 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_280 : BitVec 32 := 4#32
  let v315 : BitVec 32 := Scalar.muli v21 c4_i32_280
  let v316 : BitVec 32 := Scalar.addi c0_i32_281 v315
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_282 : BitVec 32 := 2#32
  let v317 : BitVec 32 := Scalar.muli v5 c2_i32_282
  let v318 : BitVec 32 := Scalar.addi v316 v317
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v319 : BitVec 32 := Scalar.muli v8 c1_i32_283
  let v320 : BitVec 32 := Scalar.addi v318 v319
  v320.toNat
def k0_dev5 (d0 : Dev nD) : Nat :=
  let c0_i32_300 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_299 : BitVec 32 := 4#32
  let v337 : BitVec 32 := Scalar.muli v21 c4_i32_299
  let v338 : BitVec 32 := Scalar.addi c0_i32_300 v337
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_301 : BitVec 32 := 2#32
  let v339 : BitVec 32 := Scalar.muli v5 c2_i32_301
  let v340 : BitVec 32 := Scalar.addi v338 v339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_302 : BitVec 32 := 1#32
  let v341 : BitVec 32 := Scalar.muli v8 c1_i32_302
  let v342 : BitVec 32 := Scalar.addi v340 v341
  v342.toNat
def k0_dev6 (d0 : Dev nD) : Nat :=
  let c0_i32_319 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_318 : BitVec 32 := 4#32
  let v359 : BitVec 32 := Scalar.muli v21 c4_i32_318
  let v360 : BitVec 32 := Scalar.addi c0_i32_319 v359
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_320 : BitVec 32 := 2#32
  let v361 : BitVec 32 := Scalar.muli v5 c2_i32_320
  let v362 : BitVec 32 := Scalar.addi v360 v361
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_321 : BitVec 32 := 1#32
  let v363 : BitVec 32 := Scalar.muli v8 c1_i32_321
  let v364 : BitVec 32 := Scalar.addi v362 v363
  v364.toNat
def k0_dev7 (d0 : Dev nD) : Nat :=
  let c0_i32_338 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_337 : BitVec 32 := 4#32
  let v381 : BitVec 32 := Scalar.muli v21 c4_i32_337
  let v382 : BitVec 32 := Scalar.addi c0_i32_338 v381
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_339 : BitVec 32 := 2#32
  let v383 : BitVec 32 := Scalar.muli v5 c2_i32_339
  let v384 : BitVec 32 := Scalar.addi v382 v383
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_340 : BitVec 32 := 1#32
  let v385 : BitVec 32 := Scalar.muli v8 c1_i32_340
  let v386 : BitVec 32 := Scalar.addi v384 v385
  v386.toNat
def k0_dev8 (d0 : Dev nD) : Nat :=
  let c0_i32_357 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_356 : BitVec 32 := 4#32
  let v403 : BitVec 32 := Scalar.muli v21 c4_i32_356
  let v404 : BitVec 32 := Scalar.addi c0_i32_357 v403
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_358 : BitVec 32 := 2#32
  let v405 : BitVec 32 := Scalar.muli v5 c2_i32_358
  let v406 : BitVec 32 := Scalar.addi v404 v405
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_359 : BitVec 32 := 1#32
  let v407 : BitVec 32 := Scalar.muli v8 c1_i32_359
  let v408 : BitVec 32 := Scalar.addi v406 v407
  v408.toNat
def k0_dev9 (d0 : Dev nD) : Nat :=
  let c0_i32_376 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_375 : BitVec 32 := 4#32
  let v425 : BitVec 32 := Scalar.muli v21 c4_i32_375
  let v426 : BitVec 32 := Scalar.addi c0_i32_376 v425
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_377 : BitVec 32 := 2#32
  let v427 : BitVec 32 := Scalar.muli v5 c2_i32_377
  let v428 : BitVec 32 := Scalar.addi v426 v427
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_378 : BitVec 32 := 1#32
  let v429 : BitVec 32 := Scalar.muli v8 c1_i32_378
  let v430 : BitVec 32 := Scalar.addi v428 v429
  v430.toNat
def k0_dev10 (d0 : Dev nD) : Nat :=
  let c0_i32_395 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_394 : BitVec 32 := 4#32
  let v447 : BitVec 32 := Scalar.muli v21 c4_i32_394
  let v448 : BitVec 32 := Scalar.addi c0_i32_395 v447
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_396 : BitVec 32 := 2#32
  let v449 : BitVec 32 := Scalar.muli v5 c2_i32_396
  let v450 : BitVec 32 := Scalar.addi v448 v449
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_397 : BitVec 32 := 1#32
  let v451 : BitVec 32 := Scalar.muli v8 c1_i32_397
  let v452 : BitVec 32 := Scalar.addi v450 v451
  v452.toNat
def k0_dev11 (d0 : Dev nD) : Nat :=
  let c0_i32_414 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_413 : BitVec 32 := 4#32
  let v469 : BitVec 32 := Scalar.muli v21 c4_i32_413
  let v470 : BitVec 32 := Scalar.addi c0_i32_414 v469
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_415 : BitVec 32 := 2#32
  let v471 : BitVec 32 := Scalar.muli v5 c2_i32_415
  let v472 : BitVec 32 := Scalar.addi v470 v471
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_416 : BitVec 32 := 1#32
  let v473 : BitVec 32 := Scalar.muli v8 c1_i32_416
  let v474 : BitVec 32 := Scalar.addi v472 v473
  v474.toNat
def k0_off5 (d0 : Dev nD) : Fin 2 → Nat :=
  let c2_i32_9 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.muli c2_i32_9 v17
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c512_i32_98 : BitVec 32 := 512#32
  let v135 : BitVec 32 := Scalar.muli v20 c512_i32_98
  let c0_i32_99 : BitVec 32 := 0#32
  let v136 : BitVec 32 := Scalar.addi v135 c0_i32_99
  let c0_i32_434 : BitVec 32 := 0#32
  ![v136.toNat, 0]
def k0_dev12 (d0 : Dev nD) : Nat :=
  let c0_i32_431 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_430 : BitVec 32 := 4#32
  let v491 : BitVec 32 := Scalar.muli v21 c4_i32_430
  let v492 : BitVec 32 := Scalar.addi c0_i32_431 v491
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_432 : BitVec 32 := 2#32
  let v493 : BitVec 32 := Scalar.muli v5 c2_i32_432
  let v494 : BitVec 32 := Scalar.addi v492 v493
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_433 : BitVec 32 := 1#32
  let v495 : BitVec 32 := Scalar.muli v8 c1_i32_433
  let v496 : BitVec 32 := Scalar.addi v494 v495
  v496.toNat
def k0_dev13 (d0 : Dev nD) : Nat :=
  let c0_i32_453 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_452 : BitVec 32 := 4#32
  let v513 : BitVec 32 := Scalar.muli v2 c4_i32_452
  let v514 : BitVec 32 := Scalar.addi c0_i32_453 v513
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_454 : BitVec 32 := 2#32
  let v515 : BitVec 32 := Scalar.muli v5 c2_i32_454
  let v516 : BitVec 32 := Scalar.addi v514 v515
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_455 : BitVec 32 := 1#32
  let v517 : BitVec 32 := Scalar.muli v23 c1_i32_455
  let v518 : BitVec 32 := Scalar.addi v516 v517
  v518.toNat
def k0_dev14 (d0 : Dev nD) : Nat :=
  let c0_i32_463 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_462 : BitVec 32 := 4#32
  let v525 : BitVec 32 := Scalar.muli v2 c4_i32_462
  let v526 : BitVec 32 := Scalar.addi c0_i32_463 v525
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_464 : BitVec 32 := 2#32
  let v527 : BitVec 32 := Scalar.muli v22 c2_i32_464
  let v528 : BitVec 32 := Scalar.addi v526 v527
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_465 : BitVec 32 := 1#32
  let v529 : BitVec 32 := Scalar.muli v8 c1_i32_465
  let v530 : BitVec 32 := Scalar.addi v528 v529
  v530.toNat
def k0_dev15 (d0 : Dev nD) : Nat :=
  let c0_i32_484 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_483 : BitVec 32 := 4#32
  let v547 : BitVec 32 := Scalar.muli v2 c4_i32_483
  let v548 : BitVec 32 := Scalar.addi c0_i32_484 v547
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_485 : BitVec 32 := 2#32
  let v549 : BitVec 32 := Scalar.muli v5 c2_i32_485
  let v550 : BitVec 32 := Scalar.addi v548 v549
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_486 : BitVec 32 := 1#32
  let v551 : BitVec 32 := Scalar.muli v23 c1_i32_486
  let v552 : BitVec 32 := Scalar.addi v550 v551
  v552.toNat
def k0_dev16 (d0 : Dev nD) : Nat :=
  let c0_i32_494 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_493 : BitVec 32 := 4#32
  let v559 : BitVec 32 := Scalar.muli v2 c4_i32_493
  let v560 : BitVec 32 := Scalar.addi c0_i32_494 v559
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_495 : BitVec 32 := 2#32
  let v561 : BitVec 32 := Scalar.muli v22 c2_i32_495
  let v562 : BitVec 32 := Scalar.addi v560 v561
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_496 : BitVec 32 := 1#32
  let v563 : BitVec 32 := Scalar.muli v8 c1_i32_496
  let v564 : BitVec 32 := Scalar.addi v562 v563
  v564.toNat
def k0_dev17 (d0 : Dev nD) : Nat :=
  let c0_i32_515 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_514 : BitVec 32 := 4#32
  let v581 : BitVec 32 := Scalar.muli v2 c4_i32_514
  let v582 : BitVec 32 := Scalar.addi c0_i32_515 v581
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_516 : BitVec 32 := 2#32
  let v583 : BitVec 32 := Scalar.muli v5 c2_i32_516
  let v584 : BitVec 32 := Scalar.addi v582 v583
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_517 : BitVec 32 := 1#32
  let v585 : BitVec 32 := Scalar.muli v23 c1_i32_517
  let v586 : BitVec 32 := Scalar.addi v584 v585
  v586.toNat
def k0_dev18 (d0 : Dev nD) : Nat :=
  let c0_i32_525 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_524 : BitVec 32 := 4#32
  let v593 : BitVec 32 := Scalar.muli v2 c4_i32_524
  let v594 : BitVec 32 := Scalar.addi c0_i32_525 v593
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_526 : BitVec 32 := 2#32
  let v595 : BitVec 32 := Scalar.muli v22 c2_i32_526
  let v596 : BitVec 32 := Scalar.addi v594 v595
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_527 : BitVec 32 := 1#32
  let v597 : BitVec 32 := Scalar.muli v8 c1_i32_527
  let v598 : BitVec 32 := Scalar.addi v596 v597
  v598.toNat
def k0_dev19 (d0 : Dev nD) : Nat :=
  let c0_i32_546 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_545 : BitVec 32 := 4#32
  let v615 : BitVec 32 := Scalar.muli v2 c4_i32_545
  let v616 : BitVec 32 := Scalar.addi c0_i32_546 v615
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_547 : BitVec 32 := 2#32
  let v617 : BitVec 32 := Scalar.muli v5 c2_i32_547
  let v618 : BitVec 32 := Scalar.addi v616 v617
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_548 : BitVec 32 := 1#32
  let v619 : BitVec 32 := Scalar.muli v23 c1_i32_548
  let v620 : BitVec 32 := Scalar.addi v618 v619
  v620.toNat
def k0_dev20 (d0 : Dev nD) : Nat :=
  let c0_i32_556 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_555 : BitVec 32 := 4#32
  let v627 : BitVec 32 := Scalar.muli v2 c4_i32_555
  let v628 : BitVec 32 := Scalar.addi c0_i32_556 v627
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_557 : BitVec 32 := 2#32
  let v629 : BitVec 32 := Scalar.muli v22 c2_i32_557
  let v630 : BitVec 32 := Scalar.addi v628 v629
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_558 : BitVec 32 := 1#32
  let v631 : BitVec 32 := Scalar.muli v8 c1_i32_558
  let v632 : BitVec 32 := Scalar.addi v630 v631
  v632.toNat
def k0_off6 (d0 : Dev nD) (c192_i32_179 : BitVec 32) : Fin 2 → Nat :=
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let c512_i32_178 : BitVec 32 := 512#32
  let v215 : BitVec 32 := Scalar.muli v13 c512_i32_178
  let v216 : BitVec 32 := Scalar.addi v215 c192_i32_179
  let c0_i32_569 : BitVec 32 := 0#32
  ![v216.toNat, 0]
def k0_dev21 (d0 : Dev nD) : Nat :=
  let c0_i32_576 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_575 : BitVec 32 := 4#32
  let v649 : BitVec 32 := Scalar.muli v2 c4_i32_575
  let v650 : BitVec 32 := Scalar.addi c0_i32_576 v649
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_577 : BitVec 32 := 2#32
  let v651 : BitVec 32 := Scalar.muli v22 c2_i32_577
  let v652 : BitVec 32 := Scalar.addi v650 v651
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_578 : BitVec 32 := 1#32
  let v653 : BitVec 32 := Scalar.muli v8 c1_i32_578
  let v654 : BitVec 32 := Scalar.addi v652 v653
  v654.toNat
def k0_dev22 (d0 : Dev nD) : Nat :=
  let c0_i32_597 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_596 : BitVec 32 := 4#32
  let v671 : BitVec 32 := Scalar.muli v2 c4_i32_596
  let v672 : BitVec 32 := Scalar.addi c0_i32_597 v671
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_598 : BitVec 32 := 2#32
  let v673 : BitVec 32 := Scalar.muli v5 c2_i32_598
  let v674 : BitVec 32 := Scalar.addi v672 v673
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_599 : BitVec 32 := 1#32
  let v675 : BitVec 32 := Scalar.muli v23 c1_i32_599
  let v676 : BitVec 32 := Scalar.addi v674 v675
  v676.toNat
def k0_dev23 (d0 : Dev nD) : Nat :=
  let c0_i32_607 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_606 : BitVec 32 := 4#32
  let v683 : BitVec 32 := Scalar.muli v2 c4_i32_606
  let v684 : BitVec 32 := Scalar.addi c0_i32_607 v683
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_608 : BitVec 32 := 2#32
  let v685 : BitVec 32 := Scalar.muli v22 c2_i32_608
  let v686 : BitVec 32 := Scalar.addi v684 v685
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_609 : BitVec 32 := 1#32
  let v687 : BitVec 32 := Scalar.muli v8 c1_i32_609
  let v688 : BitVec 32 := Scalar.addi v686 v687
  v688.toNat
def k0_dev24 (d0 : Dev nD) : Nat :=
  let c0_i32_627 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_626 : BitVec 32 := 4#32
  let v705 : BitVec 32 := Scalar.muli v2 c4_i32_626
  let v706 : BitVec 32 := Scalar.addi c0_i32_627 v705
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_628 : BitVec 32 := 2#32
  let v707 : BitVec 32 := Scalar.muli v22 c2_i32_628
  let v708 : BitVec 32 := Scalar.addi v706 v707
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_629 : BitVec 32 := 1#32
  let v709 : BitVec 32 := Scalar.muli v8 c1_i32_629
  let v710 : BitVec 32 := Scalar.addi v708 v709
  v710.toNat
def k0_dev25 (d0 : Dev nD) : Nat :=
  let c0_i32_648 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_647 : BitVec 32 := 4#32
  let v727 : BitVec 32 := Scalar.muli v2 c4_i32_647
  let v728 : BitVec 32 := Scalar.addi c0_i32_648 v727
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_649 : BitVec 32 := 2#32
  let v729 : BitVec 32 := Scalar.muli v5 c2_i32_649
  let v730 : BitVec 32 := Scalar.addi v728 v729
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_650 : BitVec 32 := 1#32
  let v731 : BitVec 32 := Scalar.muli v23 c1_i32_650
  let v732 : BitVec 32 := Scalar.addi v730 v731
  v732.toNat
def k0_dev26 (d0 : Dev nD) : Nat :=
  let c0_i32_658 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_657 : BitVec 32 := 4#32
  let v739 : BitVec 32 := Scalar.muli v2 c4_i32_657
  let v740 : BitVec 32 := Scalar.addi c0_i32_658 v739
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_659 : BitVec 32 := 2#32
  let v741 : BitVec 32 := Scalar.muli v22 c2_i32_659
  let v742 : BitVec 32 := Scalar.addi v740 v741
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_660 : BitVec 32 := 1#32
  let v743 : BitVec 32 := Scalar.muli v8 c1_i32_660
  let v744 : BitVec 32 := Scalar.addi v742 v743
  v744.toNat
def k0_dev27 (d0 : Dev nD) : Nat :=
  let c0_i32_678 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_677 : BitVec 32 := 4#32
  let v761 : BitVec 32 := Scalar.muli v2 c4_i32_677
  let v762 : BitVec 32 := Scalar.addi c0_i32_678 v761
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_679 : BitVec 32 := 2#32
  let v763 : BitVec 32 := Scalar.muli v22 c2_i32_679
  let v764 : BitVec 32 := Scalar.addi v762 v763
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_680 : BitVec 32 := 1#32
  let v765 : BitVec 32 := Scalar.muli v8 c1_i32_680
  let v766 : BitVec 32 := Scalar.addi v764 v765
  v766.toNat
def k0_dev28 (d0 : Dev nD) : Nat :=
  let c0_i32_699 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_698 : BitVec 32 := 4#32
  let v783 : BitVec 32 := Scalar.muli v2 c4_i32_698
  let v784 : BitVec 32 := Scalar.addi c0_i32_699 v783
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_700 : BitVec 32 := 2#32
  let v785 : BitVec 32 := Scalar.muli v5 c2_i32_700
  let v786 : BitVec 32 := Scalar.addi v784 v785
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_701 : BitVec 32 := 1#32
  let v787 : BitVec 32 := Scalar.muli v23 c1_i32_701
  let v788 : BitVec 32 := Scalar.addi v786 v787
  v788.toNat
def k0_dev29 (d0 : Dev nD) : Nat :=
  let c0_i32_709 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_708 : BitVec 32 := 4#32
  let v795 : BitVec 32 := Scalar.muli v2 c4_i32_708
  let v796 : BitVec 32 := Scalar.addi c0_i32_709 v795
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_710 : BitVec 32 := 2#32
  let v797 : BitVec 32 := Scalar.muli v22 c2_i32_710
  let v798 : BitVec 32 := Scalar.addi v796 v797
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_711 : BitVec 32 := 1#32
  let v799 : BitVec 32 := Scalar.muli v8 c1_i32_711
  let v800 : BitVec 32 := Scalar.addi v798 v799
  v800.toNat
def k0_off7 (d0 : Dev nD) (c384_i32_223 : BitVec 32) : Fin 2 → Nat :=
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c512_i32_222 : BitVec 32 := 512#32
  let v259 : BitVec 32 := Scalar.muli v16 c512_i32_222
  let v260 : BitVec 32 := Scalar.addi v259 c384_i32_223
  let c0_i32_722 : BitVec 32 := 0#32
  ![v260.toNat, 0]
def k0_dev30 (d0 : Dev nD) : Nat :=
  let c0_i32_729 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_728 : BitVec 32 := 4#32
  let v817 : BitVec 32 := Scalar.muli v2 c4_i32_728
  let v818 : BitVec 32 := Scalar.addi c0_i32_729 v817
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_730 : BitVec 32 := 2#32
  let v819 : BitVec 32 := Scalar.muli v5 c2_i32_730
  let v820 : BitVec 32 := Scalar.addi v818 v819
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_731 : BitVec 32 := 1#32
  let v821 : BitVec 32 := Scalar.muli v23 c1_i32_731
  let v822 : BitVec 32 := Scalar.addi v820 v821
  v822.toNat
def k0_dev31 (d0 : Dev nD) : Nat :=
  let c0_i32_750 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_749 : BitVec 32 := 4#32
  let v839 : BitVec 32 := Scalar.muli v2 c4_i32_749
  let v840 : BitVec 32 := Scalar.addi c0_i32_750 v839
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_751 : BitVec 32 := 2#32
  let v841 : BitVec 32 := Scalar.muli v5 c2_i32_751
  let v842 : BitVec 32 := Scalar.addi v840 v841
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_752 : BitVec 32 := 1#32
  let v843 : BitVec 32 := Scalar.muli v23 c1_i32_752
  let v844 : BitVec 32 := Scalar.addi v842 v843
  v844.toNat
def k0_dev32 (d0 : Dev nD) : Nat :=
  let c0_i32_760 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_759 : BitVec 32 := 4#32
  let v851 : BitVec 32 := Scalar.muli v2 c4_i32_759
  let v852 : BitVec 32 := Scalar.addi c0_i32_760 v851
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_761 : BitVec 32 := 2#32
  let v853 : BitVec 32 := Scalar.muli v22 c2_i32_761
  let v854 : BitVec 32 := Scalar.addi v852 v853
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_762 : BitVec 32 := 1#32
  let v855 : BitVec 32 := Scalar.muli v8 c1_i32_762
  let v856 : BitVec 32 := Scalar.addi v854 v855
  v856.toNat
def k0_dev33 (d0 : Dev nD) : Nat :=
  let c0_i32_780 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_779 : BitVec 32 := 4#32
  let v873 : BitVec 32 := Scalar.muli v2 c4_i32_779
  let v874 : BitVec 32 := Scalar.addi c0_i32_780 v873
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_781 : BitVec 32 := 2#32
  let v875 : BitVec 32 := Scalar.muli v5 c2_i32_781
  let v876 : BitVec 32 := Scalar.addi v874 v875
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_782 : BitVec 32 := 1#32
  let v877 : BitVec 32 := Scalar.muli v23 c1_i32_782
  let v878 : BitVec 32 := Scalar.addi v876 v877
  v878.toNat
def k0_off8 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c512_i32_788 : BitVec 32 := 512#32
  let v889 : BitVec 32 := Scalar.muli v10 c512_i32_788
  let v890 : Index := Scalar.indexCast v889
  let c0_789 : Index := 0#32
  ![v890.toNat, 0]
def k0_off9 (d0 : Dev nD) : Fin 2 → Nat :=
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let c512_i32_844 : BitVec 32 := 512#32
  let v962 : BitVec 32 := Scalar.muli v13 c512_i32_844
  let v963 : Index := Scalar.indexCast v962
  let c0_845 : Index := 0#32
  ![v963.toNat, 0]
def k0_off10 (d0 : Dev nD) : Fin 2 → Nat :=
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c512_i32_911 : BitVec 32 := 512#32
  let v1045 : BitVec 32 := Scalar.muli v16 c512_i32_911
  let v1046 : Index := Scalar.indexCast v1045
  let c0_912 : Index := 0#32
  ![v1046.toNat, 0]
def k0_off11 (d0 : Dev nD) (c192_i32_243 : BitVec 32) : Fin 2 → Nat :=
  let c2_i32_9 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.muli c2_i32_9 v17
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c512_i32_242 : BitVec 32 := 512#32
  let v279 : BitVec 32 := Scalar.muli v20 c512_i32_242
  let v280 : BitVec 32 := Scalar.addi v279 c192_i32_243
  let c0_i32_935 : BitVec 32 := 0#32
  ![v280.toNat, 0]
def k0_off12 (d0 : Dev nD) : Fin 2 → Nat :=
  let c2_i32_9 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.muli c2_i32_9 v17
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c512_i32_977 : BitVec 32 := 512#32
  let v1128 : BitVec 32 := Scalar.muli v20 c512_i32_977
  let v1129 : Index := Scalar.indexCast v1128
  let c0_978 : Index := 0#32
  ![v1129.toNat, 0]
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x4096x2048 : Shape := ⟨3, ![2, 4096, 2048]⟩
abbrev S2048 : Shape := ⟨1, ![2048]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdealProtocol.lean ====
/-
# The communication protocol of the kernel

Eight devices on a 2 x 2 x 2 mesh.  Device `c = 4 x + 2 y + z` has three neighbours, one across each axis.  Each device
gathers, in its receive buffer of 2048 rows, the rows its output needs from the other half of the `x` axis: the 30
remote transfers addressed to a device fill 30 disjoint row ranges that cover the buffer.  This module names the
transfers, the rows each fills, the rows each reads, what the buffers hold, and the schedule of the semaphores.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The duties of the protocol's cells are named by the three axes of the mesh. -/
abbrev Ax : Type := Fin 3

abbrev UB : Type := URounds (GSem nD τ sig) Ax
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore at zero, arbitrary generator registers. -/
def s₀ : MemSt nD τ sig (Elt F) := ⟨m, fun _ => 0, ρ⟩

/-! ## Devices -/

set_option backward.proofsInPublic true in
/-- The neighbour of `c` across axis `d`. -/
def peer (d : Ax) (c : Dev nD) : Dev nD := match d with
  | 0 => ⟨(2 * ((c.val / 2) % 2) + c.val % 2 + 4) - 4 * (c.val / 4), by have := c.isLt; simp only [nD] at *; omega⟩
  | 1 => ⟨(4 * (c.val / 4) + c.val % 2 + 2) - 2 * ((c.val / 2) % 2), by have := c.isLt; simp only [nD] at *; omega⟩
  | 2 => ⟨(4 * (c.val / 4) + 2 * ((c.val / 2) % 2) + 1) - c.val % 2, by have := c.isLt; simp only [nD] at *; omega⟩

theorem peer_peer (d : Ax) (c : Dev nD) : peer d (peer d c) = c := by revert d c; decide

/-! ## Transfers -/

/-- The remote transfers a device sends, by the axis they cross and their place: eight pieces and one long piece across
    `x`; eight pieces received across `x` passed on across `z` and across `y`; three pieces received across `z` passed
    on across `y`; two pieces received across `y` passed on across `z`. -/
inductive T : Type
  | x (s : Fin 8) | xa | zd (s : Fin 8) | yd (s : Fin 8) | yf (k : Fin 3) | zf (k : Fin 2)
  deriving DecidableEq

/-- The transfers, counted. -/
instance : Fintype T := Fintype.ofEquiv (Fin 8 ⊕ Unit ⊕ Fin 8 ⊕ Fin 8 ⊕ Fin 3 ⊕ Fin 2)
  { toFun := fun
      | .inl s => .x s | .inr (.inl _) => .xa | .inr (.inr (.inl s)) => .zd s | .inr (.inr (.inr (.inl s))) => .yd s
      | .inr (.inr (.inr (.inr (.inl k)))) => .yf k | .inr (.inr (.inr (.inr (.inr k)))) => .zf k
    invFun := fun
      | .x s => .inl s | .xa => .inr (.inl ()) | .zd s => .inr (.inr (.inl s)) | .yd s => .inr (.inr (.inr (.inl s)))
      | .yf k => .inr (.inr (.inr (.inr (.inl k)))) | .zf k => .inr (.inr (.inr (.inr (.inr k))))
    left_inv := by rintro (_ | _ | _ | _ | _ | _) <;> rfl
    right_inv := by intro t; cases t <;> rfl }

/-- The chunk the `s`-th transfer of a phase moves. -/
def xo (s : ℕ) : ℕ := (s + 3) % 8

/-- The axis a transfer crosses. -/
def ax : T → Ax
  | .x _ => 0 | .xa => 0 | .zd _ => 2 | .yd _ => 1 | .yf _ => 1 | .zf _ => 2

/-- The number of rows a transfer moves. -/
def len : T → ℕ
  | .xa => 192 | _ => 64

/-- The shape a transfer moves. -/
abbrev shp : T → Shape
  | .xa => S192x2048 | _ => S64x2048

/-- The device a transfer of device `c` is addressed to. -/
def dest (t : T) (c : Dev nD) : Dev nD := peer (ax t) c

/-- The first row of device `c`'s receive buffer that the transfer `t` addressed to `c` fills. -/
def roff (c : Dev nD) : T → ℕ
  | .x s => 1024 * ((c.val / 2) % 2) + 512 * (c.val % 2) + 64 * xo s
  | .xa => 1536 - (1024 * ((c.val / 2) % 2) + 512 * (c.val % 2))
  | .zd s => (1024 * ((c.val / 2) % 2) + 64 * xo s + 512) - 512 * (c.val % 2)
  | .yd s => (512 * (c.val % 2) + 64 * xo s + 1024) - 1024 * ((c.val / 2) % 2)
  | .yf k => (64 * k.val + 1728) - (1024 * ((c.val / 2) % 2) + 512 * (c.val % 2))
  | .zf k => (64 * (k.val + 3) + 1728) - (1024 * ((c.val / 2) % 2) + 512 * (c.val % 2))

/-- The transfer whose piece a transfer passes on, if it passes one on. -/
def srcT : T → Option T
  | .x _ => none | .xa => none
  | .zd s => some (.x s) | .yd s => some (.x s)
  | .yf k => some (.zd ⟨k.val, by omega⟩) | .zf k => some (.yd ⟨k.val + 3, by omega⟩)

/-- The place of a transfer in a device's order of sending. -/
def ord : T → ℕ
  | .x s => s.val | .xa => 8
  | .zd s => 9 + 2 * s.val + (s.val - 3) | .yd s => 10 + 2 * s.val + (s.val - 3)
  | .yf k => 17 + 3 * k.val | .zf k => 26 + 3 * k.val

/-- The place of a transfer in a device's order of waiting for what it is sent. -/
def rord : T → ℕ
  | .x s => if s.val < 4 then s.val else 2 * s.val - 3
  | .zd s => if s.val < 3 then 4 + 2 * s.val else 10 + s.val
  | .yd s => if s.val = 3 then 10 else if s.val = 4 then 12 else if s.val < 3 then 18 + s.val else 16 + s.val
  | .xa => 24 | .yf k => 25 + k.val | .zf k => 28 + k.val

/-- The place of a transfer in a device's order of waiting for its own transfers to have left. -/
def sord : T → ℕ
  | .x s => s.val | .xa => 8
  | .zd s => 9 + 2 * ((s.val + 3) % 8) | .yd s => 10 + 2 * ((s.val + 3) % 8)
  | .yf k => 25 + k.val | .zf k => 28 + k.val

theorem ord_inj : Function.Injective ord := by unfold Function.Injective; decide +kernel
theorem rord_inj : Function.Injective rord := by unfold Function.Injective; decide +kernel
theorem sord_inj : Function.Injective sord := by unfold Function.Injective; decide +kernel
theorem ord_lt (t : T) : ord t < 30 := by revert t; decide +kernel
theorem rord_lt (t : T) : rord t < 30 := by revert t; decide +kernel
theorem sord_lt (t : T) : sord t < 30 := by revert t; decide +kernel

/-- The 30 row ranges lie within the buffer and are disjoint. -/
theorem roff_le : ∀ (c : Dev nD) (t : T), roff c t + len t ≤ 2048 := by decide +kernel
theorem roff_disj : ∀ (c : Dev nD) (t t' : T), t ≠ t' → roff c t + len t ≤ roff c t' ∨ roff c t' + len t' ≤ roff c t := by
  decide +kernel

/-! ## Semaphores -/

/-- The semaphore that counts what leaves device by transfer `t`. -/
def sndN : T → ℕ
  | .x s => 12 + s.val | .xa => 28 | .zd s => 30 + xo s | .yd s => 46 + xo s | .yf k => 62 + k.val | .zf k => 68 + k.val
/-- The semaphore that counts what arrives by transfer `t`. -/
def rcvN : T → ℕ
  | .x s => 20 + s.val | .xa => 29 | .zd s => 38 + xo s | .yd s => 54 + xo s | .yf k => 65 + k.val | .zf k => 70 + k.val

theorem sndN_lt (t : T) : sndN t < 72 := by revert t; decide +kernel
theorem rcvN_lt (t : T) : rcvN t < 72 := by revert t; decide +kernel

def sndS (t : T) : DmaSem sig := ⟨sndN t, sndN_lt t⟩
def rcvS (t : T) : DmaSem sig := ⟨rcvN t, rcvN_lt t⟩
/-- The semaphores of the copies within a device: nine into the staging buffer, the tenth into the output. -/
def locS (i : Fin 10) : DmaSem sig := ⟨i.val + 2, by have := i.isLt; show i.val + 2 < 72; omega⟩
/-- The barrier's semaphore. -/
abbrev barS : Sem sig := (SemArray.scalar (sig.barrier 0 rfl) : Sems sig S_).sem

/-- The kernel's own semaphores: outgoing, incoming, local. -/
abbrev OC : Type := T ⊕ T ⊕ Fin 10
/-- All the protocol's semaphores: the barrier and the kernel's own. -/
abbrev Cl : Type := Option OC

abbrev osem : OC → SemLoc sig
  | .inl t => .dma (sndS t) | .inr (.inl t) => .dma (rcvS t) | .inr (.inr i) => .dma (locS i)
abbrev csem : Cl → SemLoc sig
  | none => .reg barS | some k => osem k

theorem osem_inj : Function.Injective osem := by unfold Function.Injective; decide +kernel
theorem csem_inj : Function.Injective csem := by
  intro a b h
  cases a with
  | none => cases b with
    | none => rfl
    | some b => exfalso; rcases b with t | t | i <;> cases h
  | some a => cases b with
    | none => exfalso; rcases a with t | t | i <;> cases h
    | some b => exact congrArg some (osem_inj h)

abbrev cell (c : Dev nD) (k : Cl) : GSem nD τ sig := ((c : Thread nD τ), csem k)
abbrev barCell (c : Dev nD) : GSem nD τ sig := ((c : Thread nD τ), .reg barS)
abbrev sndCell (c : Dev nD) (t : T) : GSem nD τ sig := ((c : Thread nD τ), .dma (sndS t))
abbrev rcvCell (c : Dev nD) (t : T) : GSem nD τ sig := ((c : Thread nD τ), .dma (rcvS t))
abbrev locCell (c : Dev nD) (i : Fin 10) : GSem nD τ sig := ((c : Thread nD τ), .dma (locS i))

open Classical in
/-- The protocol's name of a semaphore, if it has one. -/
def nameOf (sm : SemLoc sig) : Option Cl := if h : ∃ k, csem k = sm then some h.choose else none

theorem nameOf_csem (k : Cl) : nameOf (csem k) = some k := by
  have h : ∃ k', csem k' = csem k := ⟨k, rfl⟩
  unfold nameOf; rw [dif_pos h, csem_inj h.choose_spec]

/-- What a transfer adds to its semaphores. -/
abbrev NT (t : T) : ℕ := cc0_scratch2.dmaCredit (shp t) .bf16
/-- What a copy within a device adds to its semaphore. -/
abbrev NL (i : Fin 10) : ℕ :=
  if i.val < 8 then cc0_scratch0.dmaCredit S64x2048 .f32 else if i.val = 8 then cc0_scratch0.dmaCredit S192x2048 .f32
  else cc0_stg1_0.dmaCredit S2048x2048 .f32

theorem NT_pos (t : T) : 0 < NT t :=
  sig.dmaCredit_pos _ _ _ _ _ (by cases t <;> first | exact (by decide : 0 < S64x2048.numel) | exact (by decide : 0 < S192x2048.numel))
theorem NL_pos (i : Fin 10) : 0 < NL i := by
  unfold NL
  split
  · exact sig.dmaCredit_pos _ _ _ _ _ (by decide)
  · split <;> exact sig.dmaCredit_pos _ _ _ _ _ (by decide)

/-! ## Rows -/

/-- The indices whose coordinate along dimension `a` lies in `[o, o + n)`. -/
def rows {s : Shape} (a : Fin s.rank) (o n : ℕ) : Finset s.Idx :=
  Finset.univ.filter fun i => o ≤ (i a).val ∧ (i a).val < o + n

theorem mem_rows {s : Shape} {a : Fin s.rank} {o n : ℕ} {i : s.Idx} : i ∈ rows a o n ↔ o ≤ (i a).val ∧ (i a).val < o + n := by
  unfold rows; rw [Finset.mem_filter]; exact ⟨fun h => h.2, fun h => ⟨Finset.mem_univ _, h⟩⟩

theorem rows_disj {s : Shape} {a : Fin s.rank} {o n o' n' : ℕ} (h : o + n ≤ o' ∨ o' + n' ≤ o) :
    Disjoint (rows (s := s) a o n) (rows a o' n') := by
  rw [Finset.disjoint_left]; intro i hi hi'; rw [mem_rows] at hi hi'; omega

/-! ## What the buffers hold -/

set_option backward.proofsInPublic true in
/-- The entry of a device's block of the operand at row `r` and column `k`. -/
def ix3 (r : ℕ) (k : Fin 2048) : S1x4096x2048.Idx := fun a => match a with
  | ⟨0, _⟩ => (⟨0, by decide⟩ : Fin 1)
  | ⟨1, _⟩ => (⟨r % 4096, Nat.mod_lt _ (by decide)⟩ : Fin 4096)
  | ⟨2, _⟩ => k

/-- Device `c`'s block of the operand at launch. -/
def Xm (c : Dev nD) : S1x4096x2048.Idx → Elt F .f32 := m ((c : Thread nD τ).loc main_arg0)

set_option backward.proofsInPublic true in
/-- The device whose operand row `r` of device `c`'s receive buffer comes from. -/
def sdev (c : Dev nD) (r : ℕ) : Dev nD :=
  if r / 512 = 3 - c.val % 4 ∧ (r % 512) / 64 < 3 then peer 0 c
  else ⟨4 * (1 - c.val / 4) + r / 512 % 4, by show _ < 8; omega⟩

/-- The receive buffer of device `c` once everything has arrived. -/
def Rc (c : Dev nD) : S2048x2048.Idx → Elt F .bf16 :=
  truncf .bf16 fun i => Xm m (sdev c (i 0).val) (ix3 (2048 * (c.val / 4) + (i 0).val) (i 1))

/-- The operand's row held by row `r` of the staging buffer of device `c`. -/
def srow (c : Dev nD) (r : ℕ) : ℕ :=
  (2048 - 2048 * (c.val / 4)) +
    if r < 512 then 1024 * ((c.val / 2) % 2) + 512 * (c.val % 2) + 64 * xo (r / 64) + r % 64
    else 1536 - (1024 * ((c.val / 2) % 2) + 512 * (c.val % 2)) + (r - 512)

/-- The staging buffer of device `c` once filled. -/
def Gc (c : Dev nD) : S704x2048.Idx → Elt F .f32 := fun i => Xm m c (ix3 (srow c (i 0).val) (i 1))
/-- The send buffer of device `c` once filled. -/
def Sc (c : Dev nD) : S704x2048.Idx → Elt F .bf16 := truncf .bf16 (Gc m c)
/-- The output's staging buffer of device `c` once its own rows are there. -/
def Oc (c : Dev nD) : S2048x2048.Idx → Elt F .f32 := fun i => Xm m c (ix3 (2048 * (c.val / 4) + (i 0).val) (i 1))

/-! ## Pieces of the buffers -/

/-- Rows `[o, o + n)` of device `c`'s receive buffer. -/
def rcvPts (c : Dev nD) (o n : ℕ) (q : PosShare TreeShare) (f : S2048x2048.Idx → Elt F .bf16) : sProp 𝕄 :=
  ((c : Thread nD τ).loc cc0_scratch2) ↦[rows (s := S2048x2048) 0 o n]{q} f
/-- Rows `[o, o + n)` of device `c`'s send buffer. -/
def sndPts (c : Dev nD) (o n : ℕ) (f : S704x2048.Idx → Elt F .bf16) : sProp 𝕄 :=
  ((c : Thread nD τ).loc cc0_scratch1) ↦[rows (s := S704x2048) 0 o n]{fullShare} f
/-- Rows `[o, o + n)` of device `c`'s staging buffer. -/
def stgPts (c : Dev nD) (o n : ℕ) (f : S704x2048.Idx → Elt F .f32) : sProp 𝕄 :=
  ((c : Thread nD τ).loc cc0_scratch0) ↦[rows (s := S704x2048) 0 o n]{fullShare} f
/-- Rows `[o, o + n)` of device `c`'s block of the operand. -/
def argPts (c : Dev nD) (o n : ℕ) : sProp 𝕄 :=
  ((c : Thread nD τ).loc main_arg0) ↦[rows (s := S1x4096x2048) 1 o n]{fullShare} Xm m c
/-- The output's staging buffer of device `c`. -/
def outPts (c : Dev nD) (f : S2048x2048.Idx → Elt F .f32) : sProp 𝕄 :=
  ((c : Thread nD τ).loc cc0_stg1_0) ↦[Finset.univ]{fullShare} f

/-- The rows of the receive buffer the transfer `t` addressed to `c` fills. -/
def slot (c : Dev nD) (t : T) (f : S2048x2048.Idx → Elt F .bf16) : sProp 𝕄 := rcvPts c (roff c t) (len t) fullShare f

/-- The share of the piece it passes on a transfer reads with. -/
def qsh : T → PosShare TreeShare
  | .zd _ => fullShare.right.left | .yd _ => fullShare.right.right | _ => fullShare.right

/-- What a transfer reads: its part of the send buffer, or a share of the piece it passes on. -/
def srcPts (c : Dev nD) (t : T) : sProp 𝕄 := match t with
  | .x s => sndPts c (64 * s.val) 64 (Sc m c)
  | .xa => sndPts c 512 192 (Sc m c)
  | .zd s => rcvPts c (roff c (.x s)) 64 (qsh (.zd s)) (Rc m c)
  | .yd s => rcvPts c (roff c (.x s)) 64 (qsh (.yd s)) (Rc m c)
  | .yf k => rcvPts c (roff c (.zd ⟨k.val, by omega⟩)) 64 (qsh (.yf k)) (Rc m c)
  | .zf k => rcvPts c (roff c (.yd ⟨k.val + 3, by omega⟩)) 64 (qsh (.zf k)) (Rc m c)

/-- The staging rows and the operand rows of a copy within the device; the tenth fills the output's staging buffer. -/
def ldst (i : Fin 10) : ℕ := 64 * i.val
def llen (i : Fin 10) : ℕ := if i.val < 8 then 64 else if i.val = 8 then 192 else 2048
def lsrc (c : Dev nD) (i : Fin 10) : ℕ := if i.val < 9 then srow c (64 * i.val) else 2048 * (c.val / 4)

/-- What a copy within the device fills, before and after. -/
def ldstAny (c : Dev nD) (i : Fin 10) : sProp 𝕄 :=
  if i.val < 9 then iprop(∃ f, stgPts (F := F) c (ldst i) (llen i) f) else iprop(∃ f, outPts (F := F) c f)
def ldstPts (c : Dev nD) (i : Fin 10) : sProp 𝕄 :=
  if i.val < 9 then stgPts c (ldst i) (llen i) (Gc m c) else outPts c (Oc m c)

/-! ## The schedule -/

/-- What a neighbour's signal hands device `c`: the rows of the neighbour's receive buffer that `c` fills. -/
def barPay (c : Dev nD) (d : Ax) : sProp 𝕄 :=
  bigSep Finset.univ fun t : T => if ax t = d then iprop(∃ f, slot (F := F) (peer d c) t f) else iprop(emp)

/-- What a cell's owner receives with a duty. -/
def pay (c : Dev nD) (k : Cl) (d : Ax) : sProp 𝕄 := match k with
  | none => barPay c d
  | some (.inl t) => srcPts m c t
  | some (.inr (.inl t)) => slot c t (Rc m c)
  | some (.inr (.inr i)) => iprop(ldstPts m c i ∗ argPts m c (lsrc c i) (llen i))

/-- What each of a cell's duties adds to it. -/
def amt : Cl → ℕ
  | none => 1
  | some (.inl t) => NT t
  | some (.inr (.inl t)) => NT t
  | some (.inr (.inr i)) => NL i

theorem amt_pos (k : Cl) : 0 < amt k := by
  rcases k with _ | t | t | i
  exacts [Nat.one_pos, NT_pos t, NT_pos t, NL_pos i]

/-- A cell's duties: one for each axis at the barrier, one elsewhere. -/
def dut : Cl → Finset Ax
  | none => Finset.univ | some _ => {0}

instance slot_storable (c : Dev nD) (t : T) (f) : BI.Storable (upEmb : UEmb _ 𝕄) (slot (F := F) c t f) := by
  unfold slot rcvPts; infer_instance
instance barPay_storable (c : Dev nD) (d : Ax) : BI.Storable (upEmb : UEmb _ 𝕄) (barPay (F := F) c d) := by
  unfold barPay
  have : ∀ t : T, BI.Storable (upEmb : UEmb _ 𝕄) (if ax t = d then iprop(∃ f, slot (F := F) (peer d c) t f) else iprop(emp)) :=
    fun t => by split <;> infer_instance
  infer_instance
instance srcPts_storable (c : Dev nD) (t : T) : BI.Storable (upEmb : UEmb _ 𝕄) (srcPts m c t) := by
  cases t <;> unfold srcPts <;> first | (unfold sndPts; infer_instance) | (unfold rcvPts; infer_instance)
instance ldstPts_storable (c : Dev nD) (i : Fin 10) : BI.Storable (upEmb : UEmb _ 𝕄) (ldstPts m c i) := by
  unfold ldstPts stgPts outPts; split <;> infer_instance
instance argPts_storable (c : Dev nD) (o n : ℕ) : BI.Storable (upEmb : UEmb _ 𝕄) (argPts m c o n) := by
  unfold argPts; infer_instance
instance pay_storable (c : Dev nD) (k : Cl) (d : Ax) : BI.Storable (upEmb : UEmb _ 𝕄) (pay m c k d) := by
  rcases k with _ | t | t | i <;> unfold pay <;> infer_instance

/-- Everything happens in one round: each cell's duties are due once. -/
def Rd : Rounds.Schedule (GSem nD τ sig) Ax 𝕄 where
  duties g r := if r = 0 ∧ g.1.2 = .tc then (match nameOf g.2 with | some k => dut k | none => ∅) else ∅
  unitless _ := False
  amount g _ _ := match nameOf g.2 with | some k => amt k | none => 1
  payload g _ d := match nameOf g.2 with | some k => pay m g.1.1 k d | none => iprop(emp)
  amount_pos g _ _ _ := by
    cases nameOf g.2 with
    | none => exact Nat.one_pos
    | some k => exact amt_pos k

instance Rd_storable (g : GSem nD τ sig) (r : ℕ) (d : Ax) : BI.Storable (upEmb : UEmb _ 𝕄) ((Rd (F := F) m).payload g r d) := by
  show BI.Storable upEmb (match nameOf g.2 with | some k => pay m g.1.1 k d | none => iprop(emp))
  cases nameOf g.2 <;> infer_instance

section Tables
variable (c : Dev nD) (k : Cl)

theorem duties_cell : (Rd (F := F) m).duties (cell c k) 0 = dut k := by
  show (if 0 = 0 ∧ (c : Thread nD τ).2 = .tc then (match nameOf (csem k) with | some k => dut k | none => ∅) else ∅) = _
  rw [if_pos ⟨rfl, rfl⟩, nameOf_csem]
theorem duties_later (g : GSem nD τ sig) : ∀ r, 1 ≤ r → (Rd (F := F) m).duties g r = ∅ :=
  fun r hr => by dsimp only [Rd]; rw [if_neg fun h => by omega]
theorem amount_cell (d : Ax) : (Rd (F := F) m).amount (cell c k) 0 d = amt k := by
  show (match nameOf (csem k) with | some k => amt k | none => 1) = _
  rw [nameOf_csem]
theorem payload_cell (d : Ax) : (Rd (F := F) m).payload (cell c k) 0 d = pay m c k d := by
  show (match nameOf (csem k) with | some k => pay m c k d | none => iprop(emp)) = _
  rw [nameOf_csem]
theorem expect_some (k : OC) : (Rd (F := F) m).expect (cell c (some k)) 0 = amt (some k) := by
  unfold Schedule.expect Schedule.amountOf
  rw [duties_cell]; show ∑ d ∈ ({0} : Finset Ax), _ = _
  rw [Finset.sum_singleton, amount_cell]
theorem expect_bar : (Rd (F := F) m).expect (cell c none) 0 = 3 := by
  unfold Schedule.expect Schedule.amountOf
  rw [duties_cell, Finset.sum_congr rfl fun d _ => amount_cell m c none d]; decide
theorem rest_some (k : OC) : bigSep ((Rd (F := F) m).duties (cell c (some k)) 0 \ ∅) (fun d => (Rd (F := F) m).payload (cell c (some k)) 0 d)
    = pay m c (some k) 0 := by
  rw [Finset.sdiff_empty, duties_cell]; show bigSep ({0} : Finset Ax) _ = _
  rw [bigSep_singleton, payload_cell]
theorem rest_bar : bigSep ((Rd (F := F) m).duties (cell c none) 0 \ ∅) (fun d => (Rd (F := F) m).payload (cell c none) 0 d)
    = bigSep Finset.univ fun d => barPay c d := by
  rw [Finset.sdiff_empty, duties_cell]
  exact bigSep_congr fun d _ => payload_cell m c none d

end Tables

/-! ## What a device owes, and the levels -/

/-- The level of what arrives: a device may wait for it while it owes only what lies higher. -/
def levT : T → ℕ
  | .x _ => 2 | .xa => 2 | .zd s => 3 + s.val | .yd s => 3 + s.val | .yf _ => 20 | .zf _ => 20
def levC : Cl → ℕ
  | none => 1 | some (.inr (.inl t)) => levT t | _ => 0

def L (g : GSem nD τ sig) : Finset Unit := if g.1.2 = .tc then {()} else ∅
def lv (g : GSem nD τ sig) (_ : Unit) : ℕ := match nameOf g.2 with | some k => levC k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cl) (u : Unit) : lv (cell c k) u = levC k := by
  show (match nameOf (csem k) with | some k => levC k | none => 0) = _; rw [nameOf_csem]

/-- What device `c` owes for transfer `t`: the arrival at its addressee. -/
abbrev dueT (c : Dev nD) (t : T) : CellTallies nD τ sig Unit := tallyAt (rcvCell (dest t c) t) () (NT t)
/-- What it owes once it has sent the first `n` transfers. -/
def owe (c : Dev nD) (n : ℕ) : CellTallies nD τ sig Unit := ∑ t ∈ Finset.univ.filter (fun t : T => n ≤ ord t), dueT c t
/-- What it owes at launch: every transfer, and a signal to each neighbour. -/
def O₀ (c : Dev nD) : CellTallies nD τ sig Unit :=
  owe c 0 + tallyAt (barCell (peer 2 c)) () 1 + tallyAt (barCell (peer 1 c)) () 1 + tallyAt (barCell (peer 0 c)) () 1

theorem owe_step (c : Dev nD) (t : T) : owe c (ord t) = owe c (ord t + 1) + dueT c t := by
  unfold owe
  have h : (Finset.univ.filter fun t' : T => ord t ≤ ord t') = insert t (Finset.univ.filter fun t' => ord t + 1 ≤ ord t') := by
    ext t'
    simp only [Finset.mem_filter, Finset.mem_univ, _root_.true_and, Finset.mem_insert]
    constructor
    · intro h
      by_cases he : t' = t
      · exact .inl he
      · exact .inr (lt_of_le_of_ne h fun h' => he (ord_inj h'.symm))
    · rintro (rfl | h)
      · exact le_rfl
      · omega
  rw [h, Finset.sum_insert (by simp), add_comm]

theorem owe_end (c : Dev nD) : owe c 30 = 0 := by
  unfold owe
  rw [Finset.filter_false_of_mem fun t _ => by have := ord_lt t; omega, Finset.sum_empty]

theorem owe_pos {c : Dev nD} {n : ℕ} {g : GSem nD τ sig} {u : Unit} (h : 0 < owe c n g u) :
    ∃ t, n ≤ ord t ∧ g = rcvCell (dest t c) t := by
  unfold owe at h
  rw [Finset.sum_apply, Finsupp.finset_sum_apply] at h
  obtain ⟨t, ht, hp⟩ := Finset.exists_ne_zero_of_sum_ne_zero (Nat.pos_iff_ne_zero.mp h)
  refine ⟨t, (Finset.mem_filter.mp ht).2, ?_⟩
  by_contra hne
  rw [tallyAt_apply, if_neg fun h' => hne h'.1] at hp
  exact hp rfl

/-- A device may wait at a cell below everything it still owes. -/
theorem mayWait_owe (c : Dev nD) (k : Cl) (n : ℕ) (h : ∀ t, n ≤ ord t → levC k < levT t) :
    (levAts L lv : sProp 𝕄) ⊢ MayWait (c : Thread nD τ) (csem k) () (owe c n) :=
  MayOwe.of_cut (L := L) (lev := lv) (levC k) (fun p hp => by rw [Finset.mem_singleton.mp hp, L_tc]; exact Finset.mem_singleton_self _)
    (fun g u hg => by obtain ⟨t, _, rfl⟩ := owe_pos hg; rw [L_tc]; exact Finset.mem_singleton_self _)
    (fun p hp => by rw [Finset.mem_singleton.mp hp]; exact (lv_cell c k ()).le)
    (fun g u hg => by
      obtain ⟨t, ht, rfl⟩ := owe_pos hg
      exact lt_of_lt_of_eq (h t ht) (lv_cell (dest t c) (some (.inr (.inl t))) u).symm)

end Cert.KernelIdealProof
-- ==== Proof.KernelIdealGeometry.lean ====
/-
# Rows of the buffers: what slices cover, what copies leave, what loads and stores see
-/
module

public import proofs.«01_k».proof.Proof.KernelIdealProtocol
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Row ranges -/

/-- A slice of whole rows covers those rows. -/
theorem unit_rows {R C n o : ℕ} (inb : ∀ a, (![o, 0] : Fin 2 → ℕ) a + (![n, C] : Fin 2 → ℕ) a ≤ (![R, C] : Fin 2 → ℕ) a) :
    (Rect.unit (s := ⟨2, ![R, C]⟩) ![o, 0] ![n, C] inb).set = rows (s := ⟨2, ![R, C]⟩) 0 o n := by
  ext i
  rw [Rect.mem_set_unit, mem_rows]
  constructor
  · intro h; exact h 0
  · intro h a
    fin_cases a
    · exact h
    · exact ⟨Nat.zero_le _, by have := (i 1).isLt; simpa using this⟩

/-- A slice of whole rows of the operand's block covers those rows. -/
theorem unit_rows3 {n o : ℕ} (inb : ∀ a, (![0, o, 0] : Fin 3 → ℕ) a + (![1, n, 2048] : Fin 3 → ℕ) a ≤ (![1, 4096, 2048] : Fin 3 → ℕ) a) :
    (Rect.unit (s := S1x4096x2048) ![0, o, 0] ![1, n, 2048] inb).set = rows (s := S1x4096x2048) 1 o n := by
  ext i
  rw [Rect.mem_set_unit, mem_rows]
  constructor
  · intro h; exact h 1
  · intro h a
    fin_cases a
    · exact ⟨Nat.zero_le _, by have := (i 0).isLt; simpa using this⟩
    · exact h
    · exact ⟨Nat.zero_le _, by have := (i 2).isLt; simpa using this⟩

set_option backward.proofsInPublic true in
/-- Row `r` and column `k` of a buffer of `R` rows. -/
def ix2 {R : ℕ} [NeZero R] (r : ℕ) (k : Fin 2048) : (⟨2, ![R, 2048]⟩ : Shape).Idx := fun a => match a with
  | ⟨0, _⟩ => (⟨r % R, Nat.mod_lt _ (Nat.pos_of_ne_zero (NeZero.ne R))⟩ : Fin R)
  | ⟨1, _⟩ => k

theorem ix2_zero {R : ℕ} [NeZero R] (r : ℕ) (k : Fin 2048) (h : r < R) : ((ix2 (R := R) r k) 0).val = r := Nat.mod_eq_of_lt h
theorem ix2_one {R : ℕ} [NeZero R] (r : ℕ) (k : Fin 2048) : (ix2 (R := R) r k) 1 = k := rfl
theorem ix2_eta {R : ℕ} [NeZero R] (i : (⟨2, ![R, 2048]⟩ : Shape).Idx) (r : ℕ) (k : Fin 2048) (h0 : r = (i 0).val) (h1 : k = i 1) : ix2 r k = i := by
  funext a
  match a with
  | ⟨0, _⟩ => exact Fin.ext ((Nat.mod_eq_of_lt (h0 ▸ (i 0).isLt)).trans h0)
  | ⟨1, _⟩ => exact h1

theorem write_at {κ : Kind} {sp : Space} {s : Shape} {e : EltTy} (v : View sig κ sp s e) (fd : v.ty.Contents (Elt F)) (w : s.Idx → Elt F e)
    {i : v.ty.Idx} {x : s.Idx} (h : v.emb x = i) :
    v.write (Elt F) fd w Finset.univ i = _root_.cast (congrArg (Elt F) v.elt_eq.symm) (w x) := by
  subst h; exact View.write_emb_of_mem _ _ (Finset.mem_univ x)

/-! ## Copies -/

section Copies
variable {n o o' : ℕ}

/-- Rows copied from the send buffer into the receive buffer. -/
theorem copy_snd_rcv (inb : ∀ a, (![o, 0] : Fin 2 → ℕ) a + (![n, 2048] : Fin 2 → ℕ) a ≤ (![704, 2048] : Fin 2 → ℕ) a)
    (inb' : ∀ a, (![o', 0] : Fin 2 → ℕ) a + (![n, 2048] : Fin 2 → ℕ) a ≤ (![2048, 2048] : Fin 2 → ℕ) a)
    (fd : S2048x2048.Idx → Elt F .bf16) (fs : S704x2048.Idx → Elt F .bf16) (i : S2048x2048.Idx) (hi : i ∈ rows (s := S2048x2048) 0 o' n) :
    ((View.whole cc0_scratch2).slice (Rect.unit (s := S2048x2048) ![o', 0] ![n, 2048] inb')).write (Elt F) fd
      (((View.whole cc0_scratch1).slice (Rect.unit (s := S704x2048) ![o, 0] ![n, 2048] inb)).read (Elt F) fs) Finset.univ i
      = fs (ix2 (R := 704) (o + ((i 0).val - o')) (i 1)) := by
  rw [mem_rows] at hi
  have hn : (i 0).val - o' < n := by omega
  have hb : o + n ≤ 704 := by have := inb 0; simpa using this
  let x : (⟨2, ![n, 2048]⟩ : Shape).Idx := fun a => match a with
    | ⟨0, _⟩ => (⟨(i 0).val - o', hn⟩ : Fin n) | ⟨1, _⟩ => i 1
  have hx : ((View.whole cc0_scratch2).slice (Rect.unit (s := S2048x2048) ![o', 0] ![n, 2048] inb')).emb x = i := by
    funext a
    match a with
    | ⟨0, _⟩ => exact Fin.ext (show o' + 1 * ((i 0).val - o') = (i 0).val by omega)
    | ⟨1, _⟩ => exact Fin.ext (show 0 + 1 * (i 1).val = (i 1).val by omega)
  rw [write_at _ _ _ hx]
  show fs _ = fs _
  congr 1
  funext a
  match a with
  | ⟨0, _⟩ => exact Fin.ext (show o + 1 * ((i 0).val - o') = (o + ((i 0).val - o')) % 704 by rw [Nat.mod_eq_of_lt (by omega)]; omega)
  | ⟨1, _⟩ => exact Fin.ext (show 0 + 1 * (i 1).val = (i 1).val by omega)

/-- Rows copied from the receive buffer to the same rows of another device's receive buffer. -/
theorem copy_rcv_rcv (inb inb' : ∀ a, (![o, 0] : Fin 2 → ℕ) a + (![n, 2048] : Fin 2 → ℕ) a ≤ (![2048, 2048] : Fin 2 → ℕ) a)
    (fd fs : S2048x2048.Idx → Elt F .bf16) (i : S2048x2048.Idx) (hi : i ∈ rows (s := S2048x2048) 0 o n) :
    ((View.whole cc0_scratch2).slice (Rect.unit (s := S2048x2048) ![o, 0] ![n, 2048] inb')).write (Elt F) fd
      (((View.whole cc0_scratch2).slice (Rect.unit (s := S2048x2048) ![o, 0] ![n, 2048] inb)).read (Elt F) fs) Finset.univ i = fs i := by
  rw [mem_rows] at hi
  have hn : (i 0).val - o < n := by omega
  let x : (⟨2, ![n, 2048]⟩ : Shape).Idx := fun a => match a with
    | ⟨0, _⟩ => (⟨(i 0).val - o, hn⟩ : Fin n) | ⟨1, _⟩ => i 1
  have hx : ((View.whole cc0_scratch2).slice (Rect.unit (s := S2048x2048) ![o, 0] ![n, 2048] inb')).emb x = i := by
    funext a
    match a with
    | ⟨0, _⟩ => exact Fin.ext (show o + 1 * ((i 0).val - o) = (i 0).val by omega)
    | ⟨1, _⟩ => exact Fin.ext (show 0 + 1 * (i 1).val = (i 1).val by omega)
  rw [write_at _ _ _ hx]
  show fs _ = fs i
  exact congrArg fs hx

/-- Rows of the operand's block, read through the copy's source. -/
theorem read_arg (inb : ∀ a, (![0, o, 0] : Fin 3 → ℕ) a + (![1, n, 2048] : Fin 3 → ℕ) a ≤ (![1, 4096, 2048] : Fin 3 → ℕ) a)
    (hr) (hq : (⟨3, ![1, n, 2048]⟩ : Shape).Squeezes ⟨2, ![n, 2048]⟩)
    (f : S1x4096x2048.Idx → Elt F .f32) (x : (⟨2, ![n, 2048]⟩ : Shape).Idx) :
    ((((Memref.whole main_arg0 : Memref sig .tc .hbm S1x4096x2048 .f32).slice
      (Rect.unit (s := S1x4096x2048) ![0, o, 0] ![1, n, 2048] inb) hr).squeeze ⟨2, ![n, 2048]⟩ hq).view.read (Elt F) f) x
      = f (ix3 (o + (x 0).val) (x 1)) := by
  have hb : o + n ≤ 4096 := by have := inb 1; simpa using this
  have hc : (⟨3, ![1, n, 2048]⟩ : Shape).ShapeCasts ⟨2, ![n, 2048]⟩ := hq.numel_eq
  rw [Memref.read_squeeze_slice _ _ hr hq hc]
  refine (shapeCast_dropUnit_apply ![n, 2048] _ hc x).trans ?_
  show f _ = f _
  congr 1
  funext a
  match a with
  | ⟨0, _⟩ => rfl
  | ⟨1, _⟩ => exact Fin.ext (show o + 1 * (x 0).val = (o + (x 0).val) % 4096 by
      have : (x 0).val < n := (x 0).isLt
      rw [Nat.mod_eq_of_lt (by omega)]; omega)
  | ⟨2, _⟩ => exact Fin.ext (show 0 + 1 * (x 1).val = (x 1).val by omega)

/-- Rows copied from the operand's block into the staging buffer. -/
theorem copy_arg_stg (inb : ∀ a, (![0, o, 0] : Fin 3 → ℕ) a + (![1, n, 2048] : Fin 3 → ℕ) a ≤ (![1, 4096, 2048] : Fin 3 → ℕ) a)
    (hr) (hq : (⟨3, ![1, n, 2048]⟩ : Shape).Squeezes ⟨2, ![n, 2048]⟩)
    (inb' : ∀ a, (![o', 0] : Fin 2 → ℕ) a + (![n, 2048] : Fin 2 → ℕ) a ≤ (![704, 2048] : Fin 2 → ℕ) a)
    (fd : S704x2048.Idx → Elt F .f32) (f : S1x4096x2048.Idx → Elt F .f32) (i : S704x2048.Idx) (hi : i ∈ rows (s := S704x2048) 0 o' n) :
    ((View.whole cc0_scratch0).slice (Rect.unit (s := S704x2048) ![o', 0] ![n, 2048] inb')).write (Elt F) fd
      ((((Memref.whole main_arg0 : Memref sig .tc .hbm S1x4096x2048 .f32).slice
        (Rect.unit (s := S1x4096x2048) ![0, o, 0] ![1, n, 2048] inb) hr).squeeze ⟨2, ![n, 2048]⟩ hq).view.read (Elt F) f) Finset.univ i
      = f (ix3 (o + ((i 0).val - o')) (i 1)) := by
  rw [mem_rows] at hi
  have hn : (i 0).val - o' < n := by omega
  let x : (⟨2, ![n, 2048]⟩ : Shape).Idx := fun a => match a with
    | ⟨0, _⟩ => (⟨(i 0).val - o', hn⟩ : Fin n) | ⟨1, _⟩ => i 1
  have hx : ((View.whole cc0_scratch0).slice (Rect.unit (s := S704x2048) ![o', 0] ![n, 2048] inb')).emb x = i := by
    funext a
    match a with
    | ⟨0, _⟩ => exact Fin.ext (show o' + 1 * ((i 0).val - o') = (i 0).val by omega)
    | ⟨1, _⟩ => exact Fin.ext (show 0 + 1 * (i 1).val = (i 1).val by omega)
  rw [write_at _ _ _ hx]
  exact read_arg inb hr hq f x

end Copies

/-- The device's own rows, copied over the whole of the output's staging buffer. -/
theorem copy_arg_out {o : ℕ} (inb : ∀ a, (![0, o, 0] : Fin 3 → ℕ) a + (![1, 2048, 2048] : Fin 3 → ℕ) a ≤ (![1, 4096, 2048] : Fin 3 → ℕ) a)
    (hr) (hq : (⟨3, ![1, 2048, 2048]⟩ : Shape).Squeezes ⟨2, ![2048, 2048]⟩)
    (fd : S2048x2048.Idx → Elt F .f32) (f : S1x4096x2048.Idx → Elt F .f32) :
    (Memref.whole cc0_stg1_0 : Memref sig .tc .vmem S2048x2048 .f32).view.write (Elt F) fd
      ((((Memref.whole main_arg0 : Memref sig .tc .hbm S1x4096x2048 .f32).slice
        (Rect.unit (s := S1x4096x2048) ![0, o, 0] ![1, 2048, 2048] inb) hr).squeeze ⟨2, ![2048, 2048]⟩ hq).view.read (Elt F) f) Finset.univ
      = fun i : S2048x2048.Idx => f (ix3 (o + (i 0).val) (i 1)) := by
  refine (View.write_whole_univ cc0_stg1_0 fd _).trans ?_
  funext i
  exact read_arg inb hr hq f i

/-! ## Loads and stores -/

/-- The quarter of a buffer that starts at row `o`. -/
def qrt {α : Type} (o : ℕ) (f : S2048x2048.Idx → α) : S512x2048.Idx → α := fun k => f (ix2 (R := 2048) (o + (k 0).val) (k 1))

theorem ix2_add {R n : ℕ} [NeZero R] {o : ℕ} (inb : ∀ a, (![o, 0] : Fin 2 → ℕ) a + (![n, 2048] : Fin 2 → ℕ) a ≤ (![R, 2048] : Fin 2 → ℕ) a)
    (x : (⟨2, ![n, 2048]⟩ : Shape).Idx) :
    (Rect.unit (s := ⟨2, ![R, 2048]⟩) ![o, 0] ![n, 2048] inb).emb x = ix2 (R := R) (o + (x 0).val) (x 1) := by
  have hb : o + n ≤ R := by have := inb 0; simpa using this
  funext a
  match a with
  | ⟨0, _⟩ => exact Fin.ext (show o + 1 * (x 0).val = (o + (x 0).val) % R by
      have : (x 0).val < n := (x 0).isLt
      rw [Nat.mod_eq_of_lt (by omega)]; omega)
  | ⟨1, _⟩ => exact Fin.ext (show 0 + 1 * (x 1).val = (x 1).val by omega)

/-- A quarter stored: rows of the quarter hold what is stored, the others what they held. -/
theorem store_out {o : ℕ} (inb : ∀ a, (![o, 0] : Fin 2 → ℕ) a + (![512, 2048] : Fin 2 → ℕ) a ≤ (![2048, 2048] : Fin 2 → ℕ) a)
    (f : S2048x2048.Idx → Elt F .f32) (w : S512x2048.Idx → Elt F .f32) (i : S2048x2048.Idx) :
    ((View.whole cc0_stg1_0).slice (Rect.unit (s := S2048x2048) ![o, 0] ![512, 2048] inb)).write (Elt F) f w Finset.univ i
      = if o ≤ (i 0).val ∧ (i 0).val < o + 512 then w (ix2 (R := 512) ((i 0).val - o) (i 1)) else f i := by
  split
  · rename_i h
    have hx : ((View.whole cc0_stg1_0).slice (Rect.unit (s := S2048x2048) ![o, 0] ![512, 2048] inb)).emb
        (ix2 (R := 512) ((i 0).val - o) (i 1)) = i := by
      funext a
      match a with
      | ⟨0, _⟩ => exact Fin.ext (show o + 1 * (((i 0).val - o) % 512) = (i 0).val by rw [Nat.mod_eq_of_lt (by omega)]; omega)
      | ⟨1, _⟩ => exact Fin.ext (show 0 + 1 * (i 1).val = (i 1).val by omega)
    rw [write_at _ _ _ hx]; rfl
  · rename_i h
    refine View.write_of_not_mem _ _ _ ?_
    rw [View.setOn_univ, View.set_slice_whole]
    intro hm
    exact h (mem_rows.mp ((unit_rows inb).subset hm))

/-- Rows stored into the send buffer hold what is stored. -/
theorem store_snd {n o : ℕ} (inb : ∀ a, (![o, 0] : Fin 2 → ℕ) a + (![n, 2048] : Fin 2 → ℕ) a ≤ (![704, 2048] : Fin 2 → ℕ) a)
    (f : S704x2048.Idx → Elt F .bf16) (g : S704x2048.Idx → Elt F .bf16) (w : (⟨2, ![n, 2048]⟩ : Shape).Idx → Elt F .bf16)
    (hw : ∀ x, w x = g (ix2 (R := 704) (o + (x 0).val) (x 1))) (i : S704x2048.Idx) (hi : i ∈ rows (s := S704x2048) 0 o n) :
    ((View.whole cc0_scratch1).slice (Rect.unit (s := S704x2048) ![o, 0] ![n, 2048] inb)).write (Elt F) f w Finset.univ i = g i := by
  rw [mem_rows] at hi
  have hn : (i 0).val - o < n := by omega
  let x : (⟨2, ![n, 2048]⟩ : Shape).Idx := fun a => match a with
    | ⟨0, _⟩ => (⟨(i 0).val - o, hn⟩ : Fin n) | ⟨1, _⟩ => i 1
  have hx : ((View.whole cc0_scratch1).slice (Rect.unit (s := S704x2048) ![o, 0] ![n, 2048] inb)).emb x = i := by
    funext a
    match a with
    | ⟨0, _⟩ => exact Fin.ext (show o + 1 * ((i 0).val - o) = (i 0).val by omega)
    | ⟨1, _⟩ => exact Fin.ext (show 0 + 1 * (i 1).val = (i 1).val by omega)
  rw [write_at _ _ _ hx]
  show w x = g i
  rw [hw]
  exact congrArg g (ix2_eta i _ _ (show o + ((i 0).val - o) = (i 0).val by omega) rfl)

/-! ## What the transfers bring -/

theorem lt_eight {c : ℕ} (h : c < 8) : c = 0 ∨ c = 1 ∨ c = 2 ∨ c = 3 ∨ c = 4 ∨ c = 5 ∨ c = 6 ∨ c = 7 := by omega

theorem sdev_val (c : Dev nD) (r : ℕ) :
    (sdev c r).val = if r / 512 = 3 - c.val % 4 ∧ (r % 512) / 64 < 3 then (peer 0 c).val else 4 * (1 - c.val / 4) + r / 512 % 4 := by
  unfold sdev; split <;> rfl

theorem peer_val (d : Ax) (c : Dev nD) : (peer d c).val = match d with
    | 0 => (2 * ((c.val / 2) % 2) + c.val % 2 + 4) - 4 * (c.val / 4)
    | 1 => (4 * (c.val / 4) + c.val % 2 + 2) - 2 * ((c.val / 2) % 2)
    | 2 => (4 * (c.val / 4) + 2 * ((c.val / 2) % 2) + 1) - c.val % 2 := by
  fin_cases d <;> rfl

/-- Where the rows of a piece sent across `x` come from. -/
theorem sdev_x (c : Dev nD) (s : Fin 8) (r : ℕ) (h : roff (peer 0 c) (.x s) ≤ r ∧ r < roff (peer 0 c) (.x s) + 64) :
    sdev (peer 0 c) r = c ∧ 2048 * ((peer 0 c).val / 4) + r = srow c (64 * s.val + (r - roff (peer 0 c) (.x s)))
      ∧ 64 * s.val + (r - roff (peer 0 c) (.x s)) < 704 := by
  have hs := s.isLt
  have hv := sdev_val (peer 0 c) r
  rw [peer_peer] at hv
  obtain ⟨c, hc⟩ := c
  replace hc : c < 8 := hc
  simp only [srow, roff, xo, peer_val] at h hv ⊢
  refine ⟨Fin.ext ?_, ?_, ?_⟩
  · rw [hv]; clear hv; rcases lt_eight hc with rfl | rfl | rfl | rfl | rfl | rfl | rfl | rfl <;> (rw [if_neg (by omega)]; show _ = (_ : ℕ); dsimp only; omega)
  · clear hv; rw [if_pos (by omega)]; rcases lt_eight hc with rfl | rfl | rfl | rfl | rfl | rfl | rfl | rfl <;> omega
  · omega

/-- Where the rows of the long piece sent across `x` come from. -/
theorem sdev_xa (c : Dev nD) (r : ℕ) (h : roff (peer 0 c) .xa ≤ r ∧ r < roff (peer 0 c) .xa + 192) :
    sdev (peer 0 c) r = c ∧ 2048 * ((peer 0 c).val / 4) + r = srow c (512 + (r - roff (peer 0 c) .xa))
      ∧ 512 + (r - roff (peer 0 c) .xa) < 704 := by
  have hv := sdev_val (peer 0 c) r
  rw [peer_peer] at hv
  obtain ⟨c, hc⟩ := c
  replace hc : c < 8 := hc
  simp only [srow, roff, peer_val] at h hv ⊢
  refine ⟨Fin.ext ?_, ?_, ?_⟩
  · rw [hv]; clear hv; rcases lt_eight hc with rfl | rfl | rfl | rfl | rfl | rfl | rfl | rfl <;> (rw [if_pos (by omega)])
  · clear hv; rw [if_neg (by omega)]; rcases lt_eight hc with rfl | rfl | rfl | rfl | rfl | rfl | rfl | rfl <;> omega
  · omega

/-- The rows a device passes on come from the same device for its neighbour as for itself. -/
theorem sdev_pass (c : Dev nD) (t u : T) (hu : srcT t = some u) (r : ℕ) (h : roff (dest t c) t ≤ r ∧ r < roff (dest t c) t + 64) :
    sdev c r = sdev (dest t c) r ∧ c.val / 4 = (dest t c).val / 4 := by
  have hv := sdev_val (dest t c) r
  have hv' := sdev_val c r
  obtain ⟨c, hc⟩ := c
  replace hc : c < 8 := hc
  cases t with
  | x s => cases hu
  | xa => cases hu
  | zd s =>
    have hs := s.isLt
    simp only [roff, xo, dest, ax, peer_val] at h hv hv' ⊢
    refine ⟨Fin.ext ?_, by omega⟩
    rw [hv, hv']; clear hv hv'; rcases lt_eight hc with rfl | rfl | rfl | rfl | rfl | rfl | rfl | rfl <;> (rw [if_neg (by omega), if_neg (by omega)])
  | yd s =>
    have hs := s.isLt
    simp only [roff, xo, dest, ax, peer_val] at h hv hv' ⊢
    refine ⟨Fin.ext ?_, by omega⟩
    rw [hv, hv']; clear hv hv'; rcases lt_eight hc with rfl | rfl | rfl | rfl | rfl | rfl | rfl | rfl <;> (rw [if_neg (by omega), if_neg (by omega)])
  | yf k =>
    have hs := k.isLt
    simp only [roff, dest, ax, peer_val] at h hv hv' ⊢
    refine ⟨Fin.ext ?_, by omega⟩
    rw [hv, hv']; clear hv hv'; rcases lt_eight hc with rfl | rfl | rfl | rfl | rfl | rfl | rfl | rfl <;> (rw [if_neg (by omega), if_neg (by omega)])
  | zf k =>
    have hs := k.isLt
    simp only [roff, dest, ax, peer_val] at h hv hv' ⊢
    refine ⟨Fin.ext ?_, by omega⟩
    rw [hv, hv']; clear hv hv'; rcases lt_eight hc with rfl | rfl | rfl | rfl | rfl | rfl | rfl | rfl <;> (rw [if_neg (by omega), if_neg (by omega)])

/-- What device `c` sends across `x` is what its neighbour's receive buffer is to hold there. -/
theorem land_x (c : Dev nD) (s : Fin 8) (i : S2048x2048.Idx) (hi : i ∈ rows (s := S2048x2048) 0 (roff (peer 0 c) (.x s)) 64) :
    Sc m c (ix2 (R := 704) (64 * s.val + ((i 0).val - roff (peer 0 c) (.x s))) (i 1)) = Rc m (peer 0 c) i := by
  obtain ⟨h1, h2, h3⟩ := sdev_x c s (i 0).val (mem_rows.mp hi)
  unfold Sc Rc Gc truncf
  simp only [h1, h2]
  exact congrArg (fun r => FloatOps.truncf FTy.bf16 (by decide) (Xm m c (ix3 (srow c r) (i 1)))) (ix2_zero _ _ h3)

/-- What device `c` sends across `x` in its long transfer is what its neighbour's receive buffer is to hold there. -/
theorem land_xa (c : Dev nD) (i : S2048x2048.Idx) (hi : i ∈ rows (s := S2048x2048) 0 (roff (peer 0 c) .xa) 192) :
    Sc m c (ix2 (R := 704) (512 + ((i 0).val - roff (peer 0 c) .xa)) (i 1)) = Rc m (peer 0 c) i := by
  obtain ⟨h1, h2, h3⟩ := sdev_xa c (i 0).val (mem_rows.mp hi)
  unfold Sc Rc Gc truncf
  simp only [h1, h2]
  exact congrArg (fun r => FloatOps.truncf FTy.bf16 (by decide) (Xm m c (ix3 (srow c r) (i 1)))) (ix2_zero _ _ h3)

/-- What a device passes on it holds at the rows its neighbour is to hold it at. -/
theorem pass_off : ∀ (c : Dev nD) (t u : T), srcT t = some u → roff c u = roff (dest t c) t := by decide +kernel

/-- What a device passes on is what its neighbour's receive buffer is to hold there. -/
theorem pass_val (c : Dev nD) (t u : T) (h : srcT t = some u) (i : S2048x2048.Idx)
    (hi : i ∈ rows (s := S2048x2048) 0 (roff (dest t c) t) 64) : Rc m c i = Rc m (dest t c) i := by
  obtain ⟨h1, h2⟩ := sdev_pass c t u h (i 0).val (mem_rows.mp hi)
  unfold Rc truncf
  simp only [h1, h2]

end Cert.KernelIdealProof
-- ==== Proof.KernelIdealState.lean ====
/-
# The state of a device while it runs the kernel

`St` says what device `c` holds at a point of the program, from how far it has got in each of its orders: signals of the
barrier, copies begun and awaited, pieces of the send buffer filled, transfers sent, transfers received, transfers seen
to have left, and quarters of the output normalised.
-/
module

public import proofs.«01_k».proof.Proof.KernelIdealGeometry

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The quarters of the output -/

set_option backward.proofsInPublic true in
/-- The quarters in the order a device normalises them: its own, its neighbour's across `z`, across `y`, and the one
    across both. -/
def qtr (c : Dev nD) (k : ℕ) : ℕ := match k with
  | 0 => c.val % 4
  | 1 => 2 * (c.val / 2 % 2) + (1 - c.val % 2)
  | 2 => 2 * (1 - c.val / 2 % 2) + c.val % 2
  | _ => 3 - c.val % 4

/-- The place of a quarter in that order. -/
def pos (c : Dev nD) (j : ℕ) : ℕ :=
  if j = qtr c 0 then 0 else if j = qtr c 1 then 1 else if j = qtr c 2 then 2 else 3

theorem pos_qtr : ∀ (c : Dev nD) (k : Fin 4), pos c (qtr c k.val) = k.val := by decide +kernel
theorem qtr_lt : ∀ (c : Dev nD) (k : Fin 4), qtr c k.val < 4 := by decide +kernel
theorem qtr_pos : ∀ (c : Dev nD) (j : Fin 4), qtr c (pos c j.val) = j.val := by decide +kernel
theorem pos_lt (c : Dev nD) (j : ℕ) : pos c j < 4 := by unfold pos; split <;> [skip; split <;> [skip; split]] <;> decide

/-- The scale vector device `c` holds. -/
def gam (c : Dev nD) : S2048.Idx → Elt F .f32 := m ((c : Thread nD τ).loc main_arg1)

/-- Quarter `j` of the output, normalised. -/
def Nc (c : Dev nD) (j : ℕ) : S512x2048.Idx → Elt F .f32 :=
  k0_pay18 (k0_pay10 (gam m c)) (qrt (512 * j) (Oc m c)) (qrt (512 * j) (Rc m c))

/-- The output's staging buffer once `k` quarters are normalised. -/
def outC (c : Dev nD) (k : ℕ) : S2048x2048.Idx → Elt F .f32 := fun i =>
  if pos c ((i 0).val / 512) < k then Nc m c ((i 0).val / 512) (ix2 (R := 512) ((i 0).val % 512) (i 1)) else Oc m c i

/-! ## What is shared by all devices -/

/-- The cells' invariants, that each is at its first round, and the levels. -/
def Inv (K : Dev nD × Cl → ℕ) : sProp 𝕄 :=
  iprop((bigSep Finset.univ fun ck : Dev nD × Cl => iprop(cellInv ER (Rd m) (K ck) (cell ck.1 ck.2) ∗ reached ER (cell ck.1 ck.2) 0))
    ∗ levAts L lv)

instance Inv_persistent (K : Dev nD × Cl → ℕ) : BI.Persistent (Inv (F := F) m K) := by unfold Inv; infer_instance

theorem inv_at (K : Dev nD × Cl → ℕ) (c : Dev nD) (k : Cl) :
    Inv m K ⊢ iprop(cellInv ER (Rd m) (K (c, k)) (cell c k) ∗ reached ER (cell c k) 0) := by
  unfold Inv
  refine sep_elim_left.trans ?_
  exact bigSep_elim (i := (c, k)) (Φ := fun ck : Dev nD × Cl => iprop(cellInv ER (Rd m) (K ck) (cell ck.1 ck.2) ∗ reached ER (cell ck.1 ck.2) 0)) (Finset.mem_univ (c, k))

theorem inv_lev (K : Dev nD × Cl → ℕ) : Inv m K ⊢ (levAts L lv : sProp 𝕄) := by unfold Inv; exact sep_elim_right

/-! ## What device `c` owes and holds -/

/-- The obligations after `b` signals and `n` transfers. -/
def obl (c : Dev nD) (b n : ℕ) : CellTallies nD τ sig Unit := match b with
  | 0 => owe c n + tallyAt (barCell (peer 2 c)) () 1 + tallyAt (barCell (peer 1 c)) () 1 + tallyAt (barCell (peer 0 c)) () 1
  | 1 => owe c n + tallyAt (barCell (peer 2 c)) () 1 + tallyAt (barCell (peer 1 c)) () 1
  | 2 => owe c n + tallyAt (barCell (peer 2 c)) () 1
  | _ => owe c n

/-- A device's place in a cell, before its only round. -/
abbrev at0 (c : Dev nD) (k : Cl) : sProp 𝕄 := atPos ER (cell c k) 0 ∅ 0

/-- What the signal across axis `d` needs: its duty's token, and the rows of the receive buffer the neighbour fills. -/
def bgive (c : Dev nD) (d : Ax) : sProp 𝕄 :=
  iprop(dutyTok ER (barCell (peer d c)) 0 d ∗ bigSep Finset.univ fun t : T => if ax t = d then iprop(∃ f, slot (F := F) c t f) else iprop(emp))

/-- The barrier, after `b` steps: three signals, and the wait. -/
def Bar (c : Dev nD) (b : ℕ) : sProp 𝕄 := match b with
  | 0 => iprop(bgive c 0 ∗ bgive c 1 ∗ bgive c 2 ∗ at0 (F := F) c none ∗ cred (tallyAt (barCell c) () 3))
  | 1 => iprop(bgive c 1 ∗ bgive c 2 ∗ at0 (F := F) c none ∗ cred (tallyAt (barCell c) () 3))
  | 2 => iprop(bgive c 2 ∗ at0 (F := F) c none ∗ cred (tallyAt (barCell c) () 3))
  | 3 => iprop(at0 (F := F) c none ∗ cred (tallyAt (barCell c) () 3))
  | _ => semVal (barCell c) 0

/-- The place of a copy within the device in the order of beginning them. -/
def lord (i : Fin 10) : ℕ := if i.val = 9 then 0 else i.val + 1

/-- The copies within the device, `e` begun and `w` awaited. -/
def Loc1 (c : Dev nD) (e w : ℕ) (i : Fin 10) : sProp 𝕄 :=
  if i.val < w then iprop(semVal (locCell c i) 0 ∗ argPts m c (lsrc c i) (llen i) ∗ if i.val < 9 then ldstPts m c i else iprop(emp))
  else if lord i < e then iprop(cred (tallyAt (locCell c i) () (NL i)) ∗ at0 (F := F) c (some (.inr (.inr i))))
  else iprop(dutyTok ER (locCell c i) 0 0 ∗ at0 (F := F) c (some (.inr (.inr i))) ∗ argPts m c (lsrc c i) (llen i) ∗ ldstAny c i)

/-- What is held of a transfer's source before it is sent: its part of the send buffer, filled once `p` parts are, or the share of
    the piece it passes on, once that is among the `r` received. -/
def stock (c : Dev nD) (p r : ℕ) (t : T) : sProp 𝕄 := match srcT t with
  | none => if ord t < p then srcPts m c t else iprop(∃ f, sndPts (F := F) c (64 * ord t) (len t) f)
  | some u => if rord u < r then srcPts m c t else iprop(emp)

/-- The transfers sent: `n` sent, `s` seen to have left; the rows they fill are held once the barrier is passed. -/
def Snd1 (c : Dev nD) (b p n r s : ℕ) (t : T) : sProp 𝕄 :=
  if sord t < s then iprop(semVal (sndCell c t) 0 ∗ srcPts m c t)
  else if ord t < n then iprop(cred (tallyAt (sndCell c t) () (NT t)) ∗ at0 (F := F) c (some (.inl t)))
  else iprop(dutyTok ER (sndCell c t) 0 0 ∗ dutyTok ER (rcvCell (dest t c) t) 0 0 ∗ at0 (F := F) c (some (.inl t))
    ∗ (if b = 4 then iprop(∃ f, slot (F := F) (dest t c) t f) else iprop(emp)) ∗ stock m c p r t)

/-- The transfers that pass a piece on. -/
def fws (t : T) : Finset T := Finset.univ.filter fun t' => srcT t' = some t

/-- What is kept of a received piece: half of it, and the other half too if it is not passed on. -/
def kept (c : Dev nD) (t : T) : sProp 𝕄 :=
  iprop(rcvPts c (roff c t) (len t) fullShare.left (Rc m c)
    ∗ if fws t = ∅ then rcvPts c (roff c t) (len t) fullShare.right (Rc m c) else iprop(emp))

/-- The transfers received: the first `r`. -/
def Rcv1 (c : Dev nD) (r : ℕ) (t : T) : sProp 𝕄 :=
  if rord t < r then iprop(semVal (rcvCell c t) 0 ∗ kept m c t)
  else iprop(at0 (F := F) c (some (.inr (.inl t))) ∗ cred (tallyAt (rcvCell c t) () (NT t)))

/-- The output's staging buffer, once the device's own rows are there. -/
def Out (c : Dev nD) (w k : ℕ) : sProp 𝕄 := if 10 ≤ w then outPts c (outC m c k) else iprop(emp)

/-- The scale vector's staging buffer. -/
def gamPts (c : Dev nD) : sProp 𝕄 := ((c : Thread nD τ).loc cc0_stg0_0) ↦{fullShare} gam m c

/-- What device `c` holds after `b` steps of the barrier, `e` copies begun and `w` awaited, `p` parts of the send buffer filled,
    `n` transfers sent, `r` received, `s` seen to have left and `k` quarters normalised. -/
def St (K : Dev nD × Cl → ℕ) (c : Dev nD) (b e w p n r s k : ℕ) : sProp 𝕄 :=
  iprop(Inv m K ∗ (∃ W, owes (c : Thread nD τ) (obl c b n) W) ∗ Bar c b
    ∗ (bigSep Finset.univ fun i : Fin 10 => Loc1 m c e w i)
    ∗ (bigSep Finset.univ fun t : T => Snd1 m c b p n r s t)
    ∗ (bigSep Finset.univ fun t : T => Rcv1 m c r t)
    ∗ Out m c w k ∗ gamPts m c)

/-! ## Families -/

omit [FloatOps F] in
/-- A family that is trivial off a set is the family over the set. -/
theorem bigSep_on {ι : Type} [Fintype ι] [DecidableEq ι] (s : Finset ι) (Φ : ι → sProp 𝕄) :
    (bigSep Finset.univ fun i => if i ∈ s then Φ i else iprop(emp)) = bigSep s Φ := by
  have h : Finset.univ.filter (fun i => i ∈ s) = s := by ext i; simp
  have := bigSep_filter Finset.univ (fun i => i ∈ s) Φ
  rw [h] at this
  exact this.symm

theorem fws_x (s : Fin 8) : fws (.x s) = {.zd s, .yd s} := by revert s; decide +kernel
theorem fws_zd (k : Fin 3) : fws (.zd ⟨k.val, by omega⟩) = {.yf k} := by revert k; decide +kernel
theorem fws_yd (k : Fin 2) : fws (.yd ⟨k.val + 3, by omega⟩) = {.zf k} := by revert k; decide +kernel

end Cert.KernelIdealProof
-- ==== Proof.KernelIdealSteps.lean ====
/-
# The steps of a device

One lemma for each kind of operation of the kernel: from the state before it, the operation runs to any postcondition the
state after it gives.
-/
module

public import proofs.«01_k».proof.Proof.KernelIdealState

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (ρ : Dev nD → PrngReg)

/-- A program after another. -/
theorem bind_step {c : Dev nD} {α β : Type} {p : Prog (TpuEff nD τ sig (Elt F) Λ₀ .tc) α} {k : α → Prog (TpuEff nD τ sig (Elt F) Λ₀ .tc) β}
    {Q : β → sProp 𝕄} {P : sProp 𝕄} (h : P ⊢ wpc c p fun a => wpc c (k a) Q) : P ⊢ wpc c (p >>= k) Q := by
  unfold wpc; rw [wp_bind]; exact h

/-- A program that returns at once. -/
theorem pure_step {c : Dev nD} {α : Type} {x : α} {Q : α → sProp 𝕄} {P : sProp 𝕄} (h : P ⊢ Q x) :
    P ⊢ wpc c (pure x : Prog (TpuEff nD τ sig (Elt F) Λ₀ .tc) α) Q := by
  refine h.trans ?_
  iintro H
  rw [Prog.pure_eq_ret]; unfold wpc; rw [wp_ret]; imodintro; iexact H

/-- A device reads its own number. -/
theorem step_id {c : Dev nD} {Q : Dev nD → sProp 𝕄} {P : sProp 𝕄} (h : P ⊢ Q c) :
    P ⊢ wpc c (Prog.lift .deviceId : Prog (TpuEff nD τ sig (Elt F) Λ₀ .tc) (Dev nD)) Q := by
  refine h.trans ?_
  iintro H
  unfold wpc; simp only [Prog.lift, wp_deviceId]; rw [wp_ret]; imodintro; iexact H

variable {K : Dev nD × Cl → ℕ} {c : Dev nD} {b e w p n r s k : ℕ}

/-! ## The barrier -/

theorem bar_gives (c : Dev nD) (d : Ax) : (bigSep Finset.univ fun t : T => if ax t = d then iprop(∃ f, slot (F := F) c t f) else iprop(emp))
    ⊢ pay m (peer d c) none d := by
  show _ ⊢ barPay (peer d c) d
  unfold barPay; rw [peer_peer]

/-- The signals of the barrier, in order. -/
theorem step_signal (hb : b < 3) {nn : Dev nD} {sm : Sem sig} (hn : nn = peer ⟨b, hb⟩ c) (hs : sm = barS) {Q : PUnit → sProp 𝕄}
    (hk : St m K c (b + 1) e w p n r s k ⊢ Q ⟨⟩) :
    St m K c b e w p n r s k ⊢ wpc c (semSignalWord nn sm 1#32) Q := by
  subst hn hs
  have h3 : b = 0 ∨ b = 1 ∨ b = 2 := by omega
  have ho : obl c b n = obl c (b + 1) n + tallyAt (barCell (peer ⟨b, hb⟩ c)) () 1 := by
    rcases h3 with rfl | rfl | rfl <;> rfl
  have hB : Bar (F := F) c b ⊢ iprop(bgive c ⟨b, hb⟩ ∗ Bar c (b + 1)) := by
    rcases h3 with rfl | rfl | rfl <;> exact BI.Entails.refl _
  have hS : ∀ t, Snd1 m c b p n r s t = Snd1 m c (b + 1) p n r s t := by
    intro t
    unfold Snd1
    rw [if_neg (show ¬ b = 4 by omega), if_neg (show ¬ b + 1 = 4 by omega)]
  unfold St wpc
  simp only [semSignalWord, Prog.lift]
  iintro ⟨#HI, ⟨%W, HO⟩, HB, HL, HS, HR, HU, HG⟩
  ihave HB' := hB $$ HB
  unfold bgive
  icases HB' with ⟨⟨Ht, Hp⟩, HB⟩
  ihave Hpay := (bar_gives m c ⟨b, hb⟩) $$ Hp
  icases (inv_at m K (peer ⟨b, hb⟩ c) none) $$ HI with ⟨#Hc, #Hr⟩
  iapply (Rounds.wp_signal 𝒱₀ ER (Rd m) (c : Thread nD τ) none (dst := (peer ⟨b, hb⟩ c : Thread nD τ)) (κ := K (peer ⟨b, hb⟩ c, none))
      (d := ⟨b, hb⟩) (by rw [duties_cell m (peer ⟨b, hb⟩ c) none]; exact Finset.mem_univ _) ((amount_cell m (peer ⟨b, hb⟩ c) none ⟨b, hb⟩).trans (by decide)) () (obl c (b + 1) n) ho)
    $$ [HO Ht Hpay]
  · isplitr; · iexact Hc
    isplitl [HO]; · iexact HO
    isplitl [Ht]; · iexact Ht
    isplitl [Hpay]; · rw [payload_cell m (peer ⟨b, hb⟩ c) none]; iexact Hpay
    iexact Hr
  iintro HO
  rw [wp_ret]; imodintro
  iapply hk
  unfold St
  isplitr; · iexact HI
  isplitl [HO]; · iexists W; iexact HO
  isplitl [HB]; · iexact HB
  isplitl [HL]; · iexact HL
  isplitl [HS]; · rw [← bigSep_congr fun t _ => hS t]; iexact HS
  isplitl [HR]; · iexact HR
  isplitl [HU]; · iexact HU
  iexact HG

/-- What the barrier's wait brings: every row this device fills at its neighbours. -/
theorem bar_gets (c : Dev nD) : (bigSep Finset.univ fun d : Ax => barPay (F := F) c d)
    ⊢ bigSep Finset.univ fun t : T => iprop(∃ f, slot (F := F) (dest t c) t f) := by
  unfold barPay
  rw [bigSep_univ_comm]
  refine bigSep_mono fun t _ => ?_
  refine (bigSep_elim (i := ax t) (Finset.mem_univ _)).trans ?_
  rw [if_pos rfl]; exact BI.Entails.refl _

/-- The wait of the barrier. -/
theorem step_barrier {sm : Sem sig} (hs : sm = barS) {Q : PUnit → sProp 𝕄}
    (hk : St m K c 4 e w p 0 r 0 k ⊢ Q ⟨⟩) :
    St m K c 3 e w p 0 r 0 k ⊢ wpc c (semWaitWord sm 3#32) Q := by
  subst hs
  have hS : iprop((bigSep Finset.univ fun t : T => Snd1 m c 3 p 0 r 0 t) ∗ bigSep Finset.univ fun t : T => iprop(∃ f, slot (F := F) (dest t c) t f))
      ⊢ bigSep Finset.univ fun t : T => Snd1 m c 4 p 0 r 0 t := by
    have hpt : ∀ t, iprop(Snd1 m c 3 p 0 r 0 t ∗ ∃ f, slot (F := F) (dest t c) t f) ⊢ Snd1 m c 4 p 0 r 0 t := by
     intro t
     unfold Snd1
     rw [if_neg (Nat.not_lt_zero _), if_neg (Nat.not_lt_zero _), if_neg (by decide : ¬ 3 = 4), if_neg (Nat.not_lt_zero _),
       if_neg (Nat.not_lt_zero _), if_pos rfl]
     iintro ⟨⟨H1, H2, H3, -, H5⟩, H4⟩
     isplitl [H1]; · iexact H1
     isplitl [H2]; · iexact H2
     isplitl [H3]; · iexact H3
     isplitl [H4]; · iexact H4
     iexact H5
    rw [← bigSep_sep']
    exact bigSep_mono fun t _ => hpt t
  unfold St wpc Bar
  simp only [semWaitWord, Prog.lift]
  iintro ⟨#HI, ⟨%W, HO⟩, ⟨Hat, Hcr⟩, HL, HS, HR, HU, HG⟩
  icases (inv_at m K c none) $$ HI with ⟨#Hc, #Hr⟩
  iapply (Rounds.wp_wait_rest_token 𝒱₀ ER (Rd m) (c : Thread nD τ) none (κ := K (c, none))
      (wpE_semWait_eq 𝒱₀ (c : Thread nD τ) none Set.univ) (Set.mem_univ _) () (O := owe c 0) (W := W) (R := 0) (m := 0) (T := ∅)
      (by rw [expect_bar m c]; decide)) $$ [Hcr HO Hat]
  · isplitr; · iexact Hc
    isplitl [Hcr]; · iexact Hcr
    isplitl [HO]; · iexact HO
    isplitr; · iapply (mayWait_owe c none 0 (by decide +kernel)); iapply (inv_lev m K); iexact HI
    iexact Hat
  iintro ⟨HO, Hat, -, Hpay⟩
  ihave Hp := (Entails.of_eq (rest_bar m c)) $$ Hpay
  ihave Hp := (bar_gets c) $$ Hp
  imod (Rounds.cell_close ER (Rd m) (Set.mem_univ (K (c, none))) (fun h => h) (R := 0 + 1) (duties_later m (cell c none))) $$ [Hat] with Hz
  · isplitr; · iexact Hc
    iexact Hat
  rw [wp_ret]; imodintro
  iapply hk
  unfold St Bar
  isplitr; · iexact HI
  isplitl [HO]; · iexists _; iexact HO
  isplitl [Hz]; · iexact Hz
  isplitl [HL]; · iexact HL
  isplitl [HS Hp]
  · iapply hS; isplitl [HS]; · iexact HS
    iexact Hp
  isplitl [HR]; · iexact HR
  isplitl [HU]; · iexact HU
  iexact HG

/-! ## Copies within the device -/

/-- The rows of the operand a copy within the device reads, from the device's place. -/
def lo (c : Dev nD) (i : Fin 10) : ℕ :=
  if i.val < 8 then (1024 * ((c.val / 2) % 2) + 512 * (c.val % 2) + 64 * xo i.val + 2048) - 2048 * (c.val / 4)
  else if i.val = 8 then 3584 - (2048 * (c.val / 4) + 1024 * ((c.val / 2) % 2) + 512 * (c.val % 2)) else 2048 * (c.val / 4)

theorem lsrc_lo : ∀ (c : Dev nD) (i : Fin 10), lsrc c i = lo c i := by decide +kernel

theorem NL_stage (i : Fin 10) (hi : i.val < 9) : cc0_scratch0.dmaCredit ⟨2, ![llen i, 2048]⟩ .f32 = NL i := by
  unfold NL llen
  by_cases h : i.val < 8
  · simp only [if_pos h]
  · rw [if_neg h]; simp only [if_neg h, if_pos (show i.val = 8 by omega)]

/-- What staging rows hold once the copy has landed. -/
theorem stage_val (c : Dev nD) (i : Fin 10) (hi : i.val < 9) (j : S704x2048.Idx) (hj : j ∈ rows (s := S704x2048) 0 (ldst i) (llen i)) :
    Xm m c (ix3 (lsrc c i + ((j 0).val - ldst i)) (j 1)) = Gc m c j := by
  rw [mem_rows] at hj
  have : lsrc c i + ((j 0).val - ldst i) = srow c (j 0).val := by
    unfold lsrc; rw [if_pos hi]
    unfold ldst llen at hj
    unfold ldst srow
    by_cases h : i.val < 8
    · rw [if_pos h] at hj
      rw [if_pos (by omega), if_pos (by omega), show 64 * i.val / 64 = i.val by omega, show (j 0).val / 64 = i.val by omega]
      omega
    · rw [if_neg h, if_pos (by omega)] at hj
      rw [if_neg (by omega), if_neg (by omega)]
      omega
  unfold Gc; rw [this]

/-- A copy within the device begins, whatever its source and destination, if they are the ones the schedule has for it. -/
theorem step_enq_core {sh : Shape} (i : Fin 10) (hw : w ≤ i.val) {src : Memref sig .tc .hbm sh .f32} {dst : Memref sig .tc .vmem sh .f32} {h1 h2 h3}
    (hN : dst.view.amount (.dma (locS i)) = NL i) (fs : Buf (Elt F) (src.view.loc (c : Thread nD τ)))
    (hsrc : argPts m c (lsrc c i) (llen i) ⊢ (src.view.loc (c : Thread nD τ) ↦[src.view.set]{fullShare} fs))
    (hdst : ldstAny (F := F) c i ⊢ iprop(∃ fd, dst.view.loc (c : Thread nD τ) ↦[dst.view.set]{fullShare} fd))
    (hpay : ∀ fd, iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ pay m c (some (.inr (.inr i))) 0)
    {Q : PUnit → sProp 𝕄} (hk : St m K c b (lord i + 1) w p n r s k ⊢ Q ⟨⟩) :
    St m K c b (lord i) w p n r s k ⊢ wpc c (Prog.lift (.enqueueDma src (.here dst) (.dma (locS i)) h1 h2 h3)) Q := by
  have hL : ∀ j, j ≠ i → Loc1 m c (lord i + 1) w j = Loc1 m c (lord i) w j := by
    intro j hj
    unfold Loc1
    have : lord j ≠ lord i := by
      intro h; apply hj; unfold lord at h; apply Fin.ext; split at h <;> split at h <;> omega
    have e : lord j < lord i + 1 ↔ lord j < lord i := by omega
    simp only [e]
  have h1' : Loc1 m c (lord i) w i = iprop(dutyTok ER (locCell c i) 0 0 ∗ at0 (F := F) c (some (.inr (.inr i))) ∗ argPts m c (lsrc c i) (llen i) ∗ ldstAny c i) := by
    unfold Loc1; rw [if_neg (by omega), if_neg (by omega)]
  have h2' : Loc1 m c (lord i + 1) w i = iprop(cred (tallyAt (locCell c i) () (NL i)) ∗ at0 (F := F) c (some (.inr (.inr i)))) := by
    unfold Loc1; rw [if_neg (by omega), if_pos (by omega)]
  unfold St wpc
  simp only [Prog.lift]
  iintro ⟨#HI, HO, HB, HL, HS, HR, HU, HG⟩
  icases (bigSep_univ_update i hL) $$ HL with ⟨HL1, HLr⟩
  icases (Entails.of_eq h1') $$ HL1 with ⟨Ht, Hat, Ha, Hd⟩
  icases hdst $$ Hd with ⟨%fd, Hd⟩
  icases (inv_at m K c (some (.inr (.inr i)))) $$ HI with ⟨#Hc, #Hr⟩
  ihave Ha := hsrc $$ Ha
  iapply (Rounds.wp_copy_pointsTo 𝒱₀ ER (Rd m) (c : Thread nD τ) none (src := src) (dst := dst) (sem := .dma (locS i)) (κ := K (c, some (.inr (.inr i)))) (r := 0) (d := 0)
      (by rw [duties_cell m c (some (.inr (.inr i)))]; exact Finset.mem_singleton_self _) () (NL i) hN (amount_cell m c (some (.inr (.inr i))) 0)
      (by rw [payload_cell m c (some (.inr (.inr i)))]; exact hpay fd)) $$ [Ht Ha Hd]
  · isplitr; · iexact Hc
    isplitl [Ha]; · iexact Ha
    isplitl [Hd]; · iexact Hd
    isplitl [Ht]; · iexact Ht
    iexact Hr
  iintro Hcr
  rw [wp_ret]; imodintro
  iapply hk
  unfold St
  isplitr; · iexact HI
  isplitl [HO]; · iexact HO
  isplitl [HB]; · iexact HB
  isplitl [HLr Hcr Hat]
  · iapply HLr; iapply (Entails.of_eq h2'.symm); isplitl [Hcr]; · iexact Hcr
    iexact Hat
  isplitl [HS]; · iexact HS
  isplitl [HR]; · iexact HR
  isplitl [HU]; · iexact HU
  iexact HG

/-- A copy into the staging buffer begins. -/
theorem step_enq {n' : ℕ} (i : Fin 10) (hi : i.val < 9) (hn : llen i = n') (hw : w ≤ i.val) {off1 : Fin 3 → ℕ} {off2 : Fin 2 → ℕ}
    {inb1 inb2 hr1 hr2 hq} {sm : DmaSem sig} {h1 h2 h3}
    (ho1 : off1 = ![0, lo c i, 0]) (ho2 : off2 = ![ldst i, 0]) (hs : sm = locS i) {Q : PUnit → sProp 𝕄}
    (hk : St m K c b (lord i + 1) w p n r s k ⊢ Q ⟨⟩) :
    St m K c b (lord i) w p n r s k ⊢ wpc c (Prog.lift (.enqueueDma
      (((Memref.whole main_arg0 : Memref sig .tc .hbm S1x4096x2048 .f32).slice (Rect.unit (s := S1x4096x2048) off1 ![1, n', 2048] inb1) hr1).squeeze ⟨2, ![n', 2048]⟩ hq)
      (.here ((Memref.whole cc0_scratch0 : Memref sig .tc .vmem S704x2048 .f32).slice (Rect.unit (s := S704x2048) off2 ![n', 2048] inb2) hr2))
      (.dma sm) h1 h2 h3)) Q := by
  subst ho1 ho2 hs hn
  have hset : (((Memref.whole main_arg0 : Memref sig .tc .hbm S1x4096x2048 .f32).slice (Rect.unit (s := S1x4096x2048) ![0, lo c i, 0] ![1, llen i, 2048] inb1) hr1).squeeze ⟨2, ![llen i, 2048]⟩ hq).view.set
      = rows (s := S1x4096x2048) 1 (lsrc c i) (llen i) := by
    rw [lsrc_lo]
    exact (View.set_reshape _ _).trans ((View.set_slice_whole _ _).trans (unit_rows3 _))
  have hset' : ((Memref.whole cc0_scratch0 : Memref sig .tc .vmem S704x2048 .f32).slice (Rect.unit (s := S704x2048) ![ldst i, 0] ![llen i, 2048] inb2) hr2).view.set
      = rows (s := S704x2048) 0 (ldst i) (llen i) := (View.set_slice_whole _ _).trans (unit_rows _)
  have hargs := congrArg (fun S => (((c : Thread nD τ).loc main_arg0) ↦[S]{fullShare} Xm m c : sProp 𝕄)) hset
  have hdst := fun f => congrArg (fun S => (((c : Thread nD τ).loc cc0_scratch0) ↦[S]{fullShare} f : sProp 𝕄)) hset'
  refine step_enq_core m i hw ?_ (Xm m c) ?_ ?_ (fun fd => ?_) hk
  · exact NL_stage i hi
  · exact Entails.of_eq hargs.symm
  · unfold ldstAny stgPts
    rw [if_pos hi]
    exact exists_mono fun f => Entails.of_eq (hdst f).symm
  · show _ ⊢ iprop(ldstPts m c i ∗ argPts m c (lsrc c i) (llen i))
    unfold ldstPts argPts stgPts
    rw [if_pos hi]
    refine BIClass.sep_mono (Entails.of_eq ((hdst _).trans (pointsTo_congr fun j hj => ?_))) (Entails.of_eq hargs)
    exact (copy_arg_stg inb1 hr1 hq inb2 fd (Xm m c) j hj).trans ((congrArg (fun o => Xm m c (ix3 (o + ((j 0).val - ldst i)) (j 1))) (lsrc_lo c i).symm).trans (stage_val m c i hi j hj))

/-- The copy of the device's own rows into the output's staging buffer begins. -/
theorem step_enq_own {off1 : Fin 3 → ℕ} {inb1 hr1 hq} {sm : DmaSem sig} {h1 h2 h3} (hw : w ≤ 9)
    (ho1 : off1 = ![0, 2048 * (c.val / 4), 0]) (hs : sm = locS 9) {Q : PUnit → sProp 𝕄}
    (hk : St m K c b 1 w p n r s k ⊢ Q ⟨⟩) :
    St m K c b 0 w p n r s k ⊢ wpc c (Prog.lift (.enqueueDma
      (((Memref.whole main_arg0 : Memref sig .tc .hbm S1x4096x2048 .f32).slice (Rect.unit (s := S1x4096x2048) off1 ![1, 2048, 2048] inb1) hr1).squeeze S2048x2048 hq)
      (.here (Memref.whole cc0_stg1_0 : Memref sig .tc .vmem S2048x2048 .f32))
      (.dma sm) h1 h2 h3)) Q := by
  subst ho1 hs
  have hset : (((Memref.whole main_arg0 : Memref sig .tc .hbm S1x4096x2048 .f32).slice (Rect.unit (s := S1x4096x2048) ![0, 2048 * (c.val / 4), 0] ![1, 2048, 2048] inb1) hr1).squeeze S2048x2048 hq).view.set
      = rows (s := S1x4096x2048) 1 (lsrc c 9) (llen 9) :=
    (View.set_reshape _ _).trans ((View.set_slice_whole _ _).trans (unit_rows3 _))
  have hset' : (Memref.whole cc0_stg1_0 : Memref sig .tc .vmem S2048x2048 .f32).view.set = Finset.univ := View.set_whole _
  have hargs := congrArg (fun S => (((c : Thread nD τ).loc main_arg0) ↦[S]{fullShare} Xm m c : sProp 𝕄)) hset
  have hdst := fun f => congrArg (fun S => (((c : Thread nD τ).loc cc0_stg1_0) ↦[S]{fullShare} f : sProp 𝕄)) hset'
  refine step_enq_core m (9 : Fin 10) hw ?_ (Xm m c) ?_ ?_ (fun fd => ?_) hk
  · rfl
  · exact Entails.of_eq hargs.symm
  · show iprop(∃ f, outPts (F := F) c f) ⊢ _
    unfold outPts
    exact exists_mono fun f => Entails.of_eq (hdst f).symm
  · show _ ⊢ iprop(outPts c (Oc m c) ∗ argPts m c (lsrc c 9) (llen 9))
    unfold argPts outPts
    refine BIClass.sep_mono (Entails.of_eq ((hdst _).trans ?_)) (Entails.of_eq hargs)
    exact congrArg (fun f => (((c : Thread nD τ).loc cc0_stg1_0) ↦[Finset.univ]{fullShare} f : sProp 𝕄)) (copy_arg_out inb1 hr1 hq fd (Xm m c))

end Cert.KernelIdealProof
-- ==== Proof.KernelIdealMoves.lean ====
/-
# Waits and transfers
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {K : Dev nD × Cl → ℕ} {c : Dev nD} {b e w p n r s k : ℕ}

/-! ## Waits -/

theorem levT_pos (t : T) : 0 < levT t := by cases t <;> simp [levT]

/-- A wait at one of the kernel's own semaphores brings what its duty hands over, and the semaphore back at zero. -/
theorem wp_own_wait (o : OC) {sp sp' : Space} {sh sh' : Shape} {el el' : EltTy} {sm : DmaSem sig} {src : Memref sig .tc sp' sh' el'} {dst : Memref sig .tc sp sh el} {h1 h2}
    (hs : (.dma sm : SemLoc sig) = csem (some o)) (hN : dst.view.dmaCredit = amt (some o)) (hl : ∀ t, n ≤ ord t → levC (some o) < levT t)
    {Q : PUnit → sProp 𝕄} {W : Waits sig Unit} :
    iprop(Inv m K ∗ cred (tallyAt (cell c (some o)) () (amt (some o))) ∗ owes (c : Thread nD τ) (owe c n) W ∗ at0 (F := F) c (some o))
      ⊢ iprop((((∃ W, owes (c : Thread nD τ) (owe c n) W) ∗ semVal (cell c (some o)) 0 ∗ pay m c (some o) 0) -∗ Q ⟨⟩)
        -∗ wpc c (Prog.lift (.waitDma2 sm src dst h1 h2)) Q) := by
  unfold wpc
  simp only [Prog.lift]
  iintro ⟨#HI, Hcr, HO, Hat⟩
  icases (inv_at m K c (some o)) $$ HI with ⟨#Hc, #Hr⟩
  ihave Hm := ((inv_lev m K).trans (mayWait_owe (F := F) c (some o) n hl)) $$ HI
  have key := Rounds.wp_wait_rest_token (Ix := Unit) 𝒱₀ (ER (F := F)) (Rd m) (c : Thread nD τ) none (κ := K (c, some o)) (defs := defs₀ (F := F)) (Q := Q)
      (wpE_waitDma2_eq (defs := defs₀ (F := F)) 𝒱₀ (c : Thread nD τ) none Set.univ (sem := sm) (src := src) (dst := dst) (hsrc := h1) (hdst := h2)) (Set.mem_univ _) (k := Prog.ret) () (O := owe c n) (W := W) (R := 0) (m := 0) (T := ∅)
      (by rw [hs, hN, Nat.zero_add]; exact (expect_some m c o).symm)
  rw [hs, hN] at key
  iintro HQ
  iapply key $$ [Hcr HO Hat Hm]
  · isplitr; · iexact Hc
    isplitl [Hcr]; · iexact Hcr
    isplitl [HO]; · iexact HO
    isplitl [Hm]; · iexact Hm
    iexact Hat
  iintro ⟨HO, Hat, -, Hpay⟩
  ihave Hp := (Entails.of_eq (rest_some m c o)) $$ Hpay
  imod (Rounds.cell_close ER (Rd m) (Set.mem_univ (K (c, some o))) (fun h => h) (R := 0 + 1) (duties_later m (cell c (some o)))) $$ [Hat] with Hz
  · isplitr; · iexact Hc
    iexact Hat
  rw [wp_ret]; imodintro
  iapply HQ
  isplitl [HO]; · iexists _; iexact HO
  isplitl [Hz]; · iexact Hz
  iexact Hp

/-- The wait for a copy within the device. -/
theorem step_wait_loc (i : Fin 10) (hi : w = i.val) (he : 10 ≤ e) (hk0 : i.val = 9 → k = 0)
    {sp sp' : Space} {sh sh' : Shape} {el el' : EltTy} {sm : DmaSem sig} {src : Memref sig .tc sp' sh' el'} {dst : Memref sig .tc sp sh el} {h1 h2}
    (hs : sm = locS i) (hN : dst.view.dmaCredit = NL i) {Q : PUnit → sProp 𝕄} (hk : St m K c 4 e (i.val + 1) p n r s k ⊢ Q ⟨⟩) :
    St m K c 4 e w p n r s k ⊢ wpc c (Prog.lift (.waitDma2 sm src dst h1 h2)) Q := by
  subst hi hs
  have hL : ∀ j, j ≠ i → Loc1 m c e (i.val + 1) j = Loc1 m c e i.val j := by
    intro j hj
    unfold Loc1
    have : j.val ≠ i.val := fun h => hj (Fin.ext h)
    have e : j.val < i.val + 1 ↔ j.val < i.val := by omega
    simp only [e]
  have h1' : Loc1 m c e i.val i = iprop(cred (tallyAt (locCell c i) () (NL i)) ∗ at0 (F := F) c (some (.inr (.inr i)))) := by
    unfold Loc1; rw [if_neg (by omega), if_pos (by unfold lord; have := i.isLt; split <;> omega)]
  have h2' : Loc1 m c e (i.val + 1) i = iprop(semVal (locCell c i) 0 ∗ argPts m c (lsrc c i) (llen i) ∗ if i.val < 9 then ldstPts m c i else iprop(emp)) := by
    unfold Loc1; rw [if_pos (by omega)]
  have h3 : iprop(ldstPts m c i ∗ Out m c i.val k) ⊢ iprop((if i.val < 9 then ldstPts m c i else iprop(emp)) ∗ Out m c (i.val + 1) k) := by
    by_cases h : i.val < 9
    · unfold Out
      rw [if_pos h, if_neg (by omega), if_neg (by omega)]
    · have hi : i = 9 := Fin.ext (by have := i.isLt; show i.val = 9; omega)
      subst hi
      obtain rfl := hk0 rfl
      unfold Out ldstPts
      rw [if_neg (by decide), if_neg (by decide), if_neg (by decide), if_pos (by decide)]
      iintro ⟨H, -⟩
      isplitr; · iempintro
      iexact H
  unfold St
  iintro ⟨#HI, ⟨%W, HO⟩, HB, HL, HS, HR, HU, HG⟩
  icases (bigSep_univ_update i hL) $$ HL with ⟨HL1, HLr⟩
  icases (Entails.of_eq h1') $$ HL1 with ⟨Hcr, Hat⟩
  iapply (wp_own_wait m (K := K) (c := c) (n := n) (W := W) (src := src) (dst := dst) (h1 := h1) (h2 := h2) (.inr (.inr i)) rfl hN (fun t _ => levT_pos t)) $$ [Hcr HO Hat]
  · isplitr; · iexact HI
    isplitl [Hcr]; · iexact Hcr
    isplitl [HO]; · iexact HO
    iexact Hat
  iintro ⟨HO, Hz, Hp⟩
  unfold pay
  icases Hp with ⟨Hd, Ha⟩
  ihave Hx := h3 $$ [Hd HU]
  · isplitl [Hd]; · iexact Hd
    iexact HU
  icases Hx with ⟨Hd, HU⟩
  iapply hk
  unfold St
  isplitr; · iexact HI
  isplitl [HO]; · iexact HO
  isplitl [HB]; · iexact HB
  isplitl [HLr Hz Ha Hd]
  · iapply HLr; iapply (Entails.of_eq h2'.symm); isplitl [Hz]; · iexact Hz
    isplitl [Ha]; · iexact Ha
    iexact Hd
  isplitl [HS]; · iexact HS
  isplitl [HR]; · iexact HR
  isplitl [HU]; · iexact HU
  iexact HG

/-- The wait for a transfer of the device's own to have left. -/
theorem step_wait_snd (t : T) (hs' : s = sord t) (hn : n = 30)
    {sp sp' : Space} {sh sh' : Shape} {el el' : EltTy} {sm : DmaSem sig} {src : Memref sig .tc sp' sh' el'} {dst : Memref sig .tc sp sh el} {h1 h2}
    (hs : sm = sndS t) (hN : dst.view.dmaCredit = NT t) {Q : PUnit → sProp 𝕄} (hk : St m K c 4 e w p n r (sord t + 1) k ⊢ Q ⟨⟩) :
    St m K c 4 e w p n r s k ⊢ wpc c (Prog.lift (.waitDma2 sm src dst h1 h2)) Q := by
  subst hs' hs hn
  have hL : ∀ j, j ≠ t → Snd1 m c 4 p 30 r (sord t + 1) j = Snd1 m c 4 p 30 r (sord t) j := by
    intro j hj
    unfold Snd1
    have : sord j ≠ sord t := fun h => hj (sord_inj h)
    have e : sord j < sord t + 1 ↔ sord j < sord t := by omega
    simp only [e]
  have h1' : Snd1 m c 4 p 30 r (sord t) t = iprop(cred (tallyAt (sndCell c t) () (NT t)) ∗ at0 (F := F) c (some (.inl t))) := by
    unfold Snd1; rw [if_neg (by omega), if_pos (ord_lt t)]
  have h2' : Snd1 m c 4 p 30 r (sord t + 1) t = iprop(semVal (sndCell c t) 0 ∗ srcPts m c t) := by
    unfold Snd1; rw [if_pos (by omega)]
  unfold St
  iintro ⟨#HI, ⟨%W, HO⟩, HB, HL, HS, HR, HU, HG⟩
  icases (bigSep_univ_update t hL) $$ HS with ⟨HS1, HSr⟩
  icases (Entails.of_eq h1') $$ HS1 with ⟨Hcr, Hat⟩
  iapply (wp_own_wait m (K := K) (c := c) (n := 30) (W := W) (src := src) (dst := dst) (h1 := h1) (h2 := h2) (.inl t) rfl hN (fun t _ => levT_pos t)) $$ [Hcr HO Hat]
  · isplitr; · iexact HI
    isplitl [Hcr]; · iexact Hcr
    isplitl [HO]; · iexact HO
    iexact Hat
  iintro ⟨HO, Hz, Hp⟩
  unfold pay
  iapply hk
  unfold St
  isplitr; · iexact HI
  isplitl [HO]; · iexact HO
  isplitl [HB]; · iexact HB
  isplitl [HL]; · iexact HL
  isplitl [HSr Hz Hp]
  · iapply HSr; iapply (Entails.of_eq h2'.symm); isplitl [Hz]; · iexact Hz
    iexact Hp
  isplitl [HR]; · iexact HR
  isplitl [HU]; · iexact HU
  iexact HG

theorem fws_zd_none (s : Fin 8) (h : ¬ s.val < 3) : fws (.zd s) = ∅ := by revert s; decide +kernel
theorem fws_yd_none (s : Fin 8) (h : ¬ (s.val = 3 ∨ s.val = 4)) : fws (.yd s) = ∅ := by revert s; decide +kernel
theorem fws_yf (k : Fin 3) : fws (.yf k) = ∅ := by revert k; decide +kernel
theorem fws_zf (k : Fin 2) : fws (.zf k) = ∅ := by revert k; decide +kernel

/-- A received piece: half is kept, and the other half goes to the transfers that pass the piece on, if there are any. -/
theorem slot_split (c : Dev nD) (t : T) : slot c t (Rc m c) ⊢ iprop(kept m c t ∗ bigSep (fws t) fun t' => srcPts m c t') := by
  have hs : slot c t (Rc m c) ⊢ iprop(rcvPts c (roff c t) (len t) fullShare.left (Rc m c) ∗ rcvPts c (roff c t) (len t) fullShare.right (Rc m c)) := by
    unfold slot rcvPts
    exact (pointsTo_share (PosShare.mem_left_op_right fullShare)).1
  have hs2 : ∀ o, rcvPts (F := F) c o 64 fullShare.right (Rc m c) ⊢ iprop(rcvPts c o 64 fullShare.right.left (Rc m c) ∗ rcvPts c o 64 fullShare.right.right (Rc m c)) := by
    intro o
    unfold rcvPts
    exact (pointsTo_share (PosShare.mem_left_op_right fullShare.right)).1
  refine hs.trans ?_
  unfold kept
  by_cases h : fws t = ∅
  · rw [if_pos h, h, bigSep_empty]
    iintro ⟨H1, H2⟩
    isplitl [H1 H2]
    · isplitl [H1]; · iexact H1
      iexact H2
    iempintro
  · rw [if_neg h]
    have hf : rcvPts c (roff c t) (len t) fullShare.right (Rc m c) ⊢ bigSep (fws t) fun t' => srcPts m c t' := by
      cases t with
      | x s' =>
        rw [fws_x, bigSep_insert (by simp), bigSep_singleton]
        exact hs2 _
      | xa => exact absurd (by decide +kernel) h
      | zd s' =>
        by_cases h3 : s'.val < 3
        · have := fws_zd ⟨s'.val, h3⟩
          rw [show (T.zd s') = .zd ⟨(⟨s'.val, h3⟩ : Fin 3).val, by omega⟩ from rfl, this, bigSep_singleton]
          exact BI.Entails.refl _
        · exact absurd (fws_zd_none s' h3) h
      | yd s' =>
        by_cases h3 : s'.val = 3 ∨ s'.val = 4
        · have := fws_yd ⟨s'.val - 3, by omega⟩
          have e : (T.yd s') = .yd ⟨(⟨s'.val - 3, by omega⟩ : Fin 2).val + 3, by have := s'.isLt; show s'.val - 3 + 3 < 8; omega⟩ :=
            congrArg T.yd (Fin.ext (show s'.val = s'.val - 3 + 3 by omega))
          rw [e, this, bigSep_singleton]
          exact BI.Entails.refl _
        · exact absurd (fws_yd_none s' h3) h
      | yf k' => exact absurd (fws_yf k') h
      | zf k' => exact absurd (fws_zf k') h
    iintro ⟨H1, H2⟩
    isplitl [H1]
    · isplitl [H1]; · iexact H1
      iempintro
    iapply hf; iexact H2

/-- The wait for a transfer addressed to the device. -/
theorem step_wait_rcv (t : T) (hr : r = rord t) (hn : ∀ t', n ≤ ord t' → levT t < levT t') (hf : ∀ t', srcT t' = some t → n ≤ ord t')
    (hs0 : s = 0)
    {sp sp' : Space} {sh sh' : Shape} {el el' : EltTy} {sm : DmaSem sig} {src : Memref sig .tc sp' sh' el'} {dst : Memref sig .tc sp sh el} {h1 h2}
    (hs : sm = rcvS t) (hN : dst.view.dmaCredit = NT t) {Q : PUnit → sProp 𝕄} (hk : St m K c 4 e w p n (rord t + 1) s k ⊢ Q ⟨⟩) :
    St m K c 4 e w p n r s k ⊢ wpc c (Prog.lift (.waitDma2 sm src dst h1 h2)) Q := by
  subst hr hs hs0
  have hL : ∀ j, j ≠ t → Rcv1 m c (rord t + 1) j = Rcv1 m c (rord t) j := by
    intro j hj
    unfold Rcv1
    have : rord j ≠ rord t := fun h => hj (rord_inj h)
    have e : rord j < rord t + 1 ↔ rord j < rord t := by omega
    simp only [e]
  have h1' : Rcv1 m c (rord t) t = iprop(at0 (F := F) c (some (.inr (.inl t))) ∗ cred (tallyAt (rcvCell c t) () (NT t))) := by
    unfold Rcv1; rw [if_neg (by omega)]
  have h2' : Rcv1 m c (rord t + 1) t = iprop(semVal (rcvCell c t) 0 ∗ kept m c t) := by
    unfold Rcv1; rw [if_pos (by omega)]
  have hpt : ∀ t', iprop(Snd1 m c 4 p n (rord t) 0 t' ∗ if t' ∈ fws t then srcPts m c t' else iprop(emp)) ⊢ Snd1 m c 4 p n (rord t + 1) 0 t' := by
    intro t'
    by_cases h : t' ∈ fws t
    · have h' : srcT t' = some t := (Finset.mem_filter.mp h).2
      have ho := hf t' h'
      rw [if_pos h]
      unfold Snd1 stock
      have ho' : ¬ ord t' < n := by omega
      simp only [Nat.not_lt_zero, if_false, if_neg ho', h']
      show iprop((_ ∗ _ ∗ _ ∗ _ ∗ if rord t < rord t then srcPts m c t' else iprop(emp)) ∗ _) ⊢ iprop(_ ∗ _ ∗ _ ∗ _ ∗ if rord t < rord t + 1 then srcPts m c t' else iprop(emp))
      rw [if_neg (lt_irrefl _), if_pos (Nat.lt_succ_self _)]
      iintro ⟨⟨H1, H2, H3, H4, -⟩, H5⟩
      isplitl [H1]; · iexact H1
      isplitl [H2]; · iexact H2
      isplitl [H3]; · iexact H3
      isplitl [H4]; · iexact H4
      iexact H5
    · rw [if_neg h]
      have e : Snd1 m c 4 p n (rord t) 0 t' = Snd1 m c 4 p n (rord t + 1) 0 t' := by
        unfold Snd1 stock
        cases hu : srcT t' with
        | none => rfl
        | some u =>
          have hne : u ≠ t := fun h' => h (Finset.mem_filter.mpr ⟨Finset.mem_univ _, h' ▸ hu⟩)
          have : rord u ≠ rord t := fun h => hne (rord_inj h)
          have e : rord u < rord t + 1 ↔ rord u < rord t := by omega
          simp only [e]
      rw [e]
      iintro ⟨H, -⟩
      iexact H
  have hS : iprop((bigSep Finset.univ fun t' : T => Snd1 m c 4 p n (rord t) 0 t') ∗ bigSep (fws t) fun t' => srcPts m c t')
      ⊢ bigSep Finset.univ fun t' : T => Snd1 m c 4 p n (rord t + 1) 0 t' := by
    rw [← bigSep_on (fws t), ← bigSep_sep']
    exact bigSep_mono fun t' _ => hpt t'
  unfold St
  iintro ⟨#HI, ⟨%W, HO⟩, HB, HL, HS, HR, HU, HG⟩
  icases (bigSep_univ_update t hL) $$ HR with ⟨HR1, HRr⟩
  icases (Entails.of_eq h1') $$ HR1 with ⟨Hat, Hcr⟩
  iapply (wp_own_wait m (K := K) (c := c) (n := n) (W := W) (src := src) (dst := dst) (h1 := h1) (h2 := h2) (.inr (.inl t)) rfl hN hn) $$ [Hcr HO Hat]
  · isplitr; · iexact HI
    isplitl [Hcr]; · iexact Hcr
    isplitl [HO]; · iexact HO
    iexact Hat
  iintro ⟨HO, Hz, Hp⟩
  unfold pay
  icases (slot_split m c t) $$ Hp with ⟨Hp, Hf⟩
  iapply hk
  unfold St
  isplitr; · iexact HI
  isplitl [HO]; · iexact HO
  isplitl [HB]; · iexact HB
  isplitl [HL]; · iexact HL
  isplitl [HS Hf]
  · iapply hS; isplitl [HS]; · iexact HS
    iexact Hf
  isplitl [HRr Hz Hp]
  · iapply HRr; iapply (Entails.of_eq h2'.symm); isplitl [Hz]; · iexact Hz
    iexact Hp
  isplitl [HU]; · iexact HU
  iexact HG

/-! ## Transfers -/

/-- A transfer begins, whatever its source and destination, if they are the ones the schedule has for it. -/
theorem step_send_core (t : T) (hn : n = ord t) (hs0 : s = 0) (hst : stock m c p r t = srcPts m c t)
    {sh : Shape} {src dst : Memref sig .tc .vmem sh .bf16} {hsc : dst.view.ref.isScScratch = false} {h1 h2 h3}
    (hN : dst.view.amount (.dma (rcvS t)) = NT t) (q : PosShare TreeShare) (fs : Buf (Elt F) (src.view.loc (c : Thread nD τ)))
    (hsrc : srcPts m c t = (src.view.loc (c : Thread nD τ) ↦[src.view.set]{q} fs))
    (hdst : iprop(∃ f, slot (F := F) (dest t c) t f) ⊢ iprop(∃ fd, dst.view.loc ((dest t c : Dev nD) : Thread nD τ) ↦[dst.view.set]{fullShare} fd))
    (hpay : ∀ fd, (dst.view.loc ((dest t c : Dev nD) : Thread nD τ) ↦[dst.view.set]{fullShare} (dst.view.write (Elt F) fd (src.view.read (Elt F) fs) Finset.univ))
      ⊢ slot (dest t c) t (Rc m (dest t c)))
    {Q : PUnit → sProp 𝕄} (hk : St m K c 4 e w p (ord t + 1) r s k ⊢ Q ⟨⟩) :
    St m K c 4 e w p n r s k ⊢ wpc c (Prog.lift (.enqueueDma src (.remote (Dev.tc (dest t c) : Thread nD τ) dst (.dma (sndS t)) hsc) (.dma (rcvS t)) h1 h2 h3)) Q := by
  subst hn hs0
  have hL : ∀ j, j ≠ t → Snd1 m c 4 p (ord t + 1) r 0 j = Snd1 m c 4 p (ord t) r 0 j := by
    intro j hj
    unfold Snd1
    have : ord j ≠ ord t := fun h => hj (ord_inj h)
    have e : ord j < ord t + 1 ↔ ord j < ord t := by omega
    simp only [e]
  have h1' : Snd1 m c 4 p (ord t) r 0 t = iprop(dutyTok ER (sndCell c t) 0 0 ∗ dutyTok ER (rcvCell (dest t c) t) 0 0 ∗ at0 (F := F) c (some (.inl t))
    ∗ iprop(∃ f, slot (F := F) (dest t c) t f) ∗ srcPts m c t) := by
    unfold Snd1; rw [if_neg (by omega), if_neg (by omega), if_pos rfl, hst]
  have h2' : Snd1 m c 4 p (ord t + 1) r 0 t = iprop(cred (tallyAt (sndCell c t) () (NT t)) ∗ at0 (F := F) c (some (.inl t))) := by
    unfold Snd1; rw [if_neg (by omega), if_pos (by omega)]
  unfold St wpc
  simp only [Prog.lift]
  iintro ⟨#HI, ⟨%W, HO⟩, HB, HL, HS, HR, HU, HG⟩
  icases (bigSep_univ_update t hL) $$ HS with ⟨HS1, HSr⟩
  icases (Entails.of_eq h1') $$ HS1 with ⟨Ht, Ht', Hat, Hd, Hs⟩
  icases hdst $$ Hd with ⟨%fd, Hd⟩
  ihave Hs := (Entails.of_eq hsrc) $$ Hs
  icases (inv_at m K c (some (.inl t))) $$ HI with ⟨#Hc, #Hr⟩
  icases (inv_at m K (dest t c) (some (.inr (.inl t)))) $$ HI with ⟨#Hc', #Hr'⟩
  iapply (Rounds.wp_send_pointsTo 𝒱₀ ER (Rd m) (c : Thread nD τ) none (c' := ((dest t c : Dev nD) : Thread nD τ)) (src := src) (dst := dst) (sS := .dma (sndS t)) (sem := .dma (rcvS t))
      (κ₁ := K (c, some (.inl t))) (κ₂ := K (dest t c, some (.inr (.inl t)))) (r₁ := 0) (r₂ := 0) (d₁ := 0) (d₂ := 0) (fs := fs) (fd := fd)
      (by rw [duties_cell m c (some (.inl t))]; exact Finset.mem_singleton_self _)
      (by rw [duties_cell m (dest t c) (some (.inr (.inl t)))]; exact Finset.mem_singleton_self _) () () (NT t) hN
      (amount_cell m c (some (.inl t)) 0) (amount_cell m (dest t c) (some (.inr (.inl t))) 0) (owe c (ord t + 1)) (owe_step c t) (W := W)
      (by rw [payload_cell m c (some (.inl t))]; exact Entails.of_eq hsrc.symm)
      (by rw [payload_cell m (dest t c) (some (.inr (.inl t)))]; exact hpay fd)) $$ [HO Ht Ht' Hd Hs]
  · isplitr; · iexact Hc
    isplitr; · iexact Hc'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hcr, HO⟩
  rw [wp_ret]; imodintro
  iapply hk
  unfold St
  isplitr; · iexact HI
  isplitl [HO]; · iexists W; iexact HO
  isplitl [HB]; · iexact HB
  isplitl [HL]; · iexact HL
  isplitl [HSr Hcr Hat]
  · iapply HSr; iapply (Entails.of_eq h2'.symm); isplitl [Hcr]; · iexact Hcr
    iexact Hat
  isplitl [HR]; · iexact HR
  isplitl [HU]; · iexact HU
  iexact HG

/-- The first row a transfer fills, from the sender's place. -/
def soff (c : Dev nD) : T → ℕ
  | .x s => 1024 * ((c.val / 2) % 2) + 512 * (c.val % 2) + 64 * xo s
  | .xa => 1536 - (1024 * ((c.val / 2) % 2) + 512 * (c.val % 2))
  | .zd s => 1024 * ((c.val / 2) % 2) + 512 * (c.val % 2) + 64 * xo s
  | .yd s => 1024 * ((c.val / 2) % 2) + 512 * (c.val % 2) + 64 * xo s
  | .yf k => (1024 * ((c.val / 2) % 2) + 64 * (k.val + 3) + 512) - 512 * (c.val % 2)
  | .zf k => (512 * (c.val % 2) + 64 * (k.val + 6) + 1024) - 1024 * ((c.val / 2) % 2)

theorem soff_eq : ∀ (c : Dev nD) (t : T), roff (dest t c) t = soff c t := by decide +kernel

theorem srcPts_pass (c : Dev nD) (t u : T) (h : srcT t = some u) : srcPts m c t = rcvPts c (soff c t) 64 (qsh t) (Rc m c) := by
  have h1 := pass_off c t u h
  rw [soff_eq] at h1
  rw [← h1]
  cases t with
  | x s => cases h
  | xa => cases h
  | zd s => cases h; rfl
  | yd s => cases h; rfl
  | yf k => cases h; rfl
  | zf k => cases h; rfl

theorem len_pass (t u : T) (h : srcT t = some u) : len t = 64 := by
  cases t with
  | xa => cases h
  | x s => rfl
  | zd s => rfl
  | yd s => rfl
  | yf k => rfl
  | zf k => rfl

/-- The rows a transfer fills, as the slice of the receive buffer it is addressed to. -/
theorem dst_set {n' o : ℕ} {inb hr} : ((Memref.whole cc0_scratch2 : Memref sig .tc .vmem S2048x2048 .bf16).slice (Rect.unit (s := S2048x2048) ![o, 0] ![n', 2048] inb) hr).view.set
    = rows (s := S2048x2048) 0 o n' := (View.set_slice_whole _ _).trans (unit_rows _)
theorem src_set {n' o : ℕ} {inb hr} : ((Memref.whole cc0_scratch1 : Memref sig .tc .vmem S704x2048 .bf16).slice (Rect.unit (s := S704x2048) ![o, 0] ![n', 2048] inb) hr).view.set
    = rows (s := S704x2048) 0 o n' := (View.set_slice_whole _ _).trans (unit_rows _)

/-- A transfer from the send buffer begins. -/
theorem step_send_x {n' : ℕ} (t : T) (hu : srcT t = none) (hl : len t = n') (hn : n = ord t) (hs0 : s = 0) (hp : ord t < p)
    {nn : Dev nD} {ss rs : DmaSem sig} {off1 off2 : Fin 2 → ℕ} {inb1 inb2 hr1 hr2 hsc h1 h2 h3}
    (hd : nn = dest t c) (hss : ss = sndS t) (hrs : rs = rcvS t) (ho1 : off1 = ![64 * ord t, 0]) (ho2 : off2 = ![soff c t, 0])
    {Q : PUnit → sProp 𝕄} (hk : St m K c 4 e w p (ord t + 1) r s k ⊢ Q ⟨⟩) :
    St m K c 4 e w p n r s k ⊢ wpc c (Prog.lift (.enqueueDma
      ((Memref.whole cc0_scratch1 : Memref sig .tc .vmem S704x2048 .bf16).slice (Rect.unit (s := S704x2048) off1 ![n', 2048] inb1) hr1)
      (.remote (Dev.tc nn : Thread nD τ) ((Memref.whole cc0_scratch2 : Memref sig .tc .vmem S2048x2048 .bf16).slice (Rect.unit (s := S2048x2048) off2 ![n', 2048] inb2) hr2) (.dma ss) hsc)
      (.dma rs) h1 h2 h3)) Q := by
  subst hd hss hrs ho1 ho2 hl
  have hsrcE : srcPts m c t = sndPts c (64 * ord t) (len t) (Sc m c) := by
    cases t with
    | x s => rfl
    | xa => rfl
    | zd s => cases hu
    | yd s => cases hu
    | yf s => cases hu
    | zf s => cases hu
  have hland : ∀ i ∈ rows (s := S2048x2048) 0 (soff c t) (len t), Sc m c (ix2 (R := 704) (64 * ord t + ((i 0).val - soff c t)) (i 1)) = Rc m (dest t c) i := by
    rw [← soff_eq]
    cases t with
    | x s => exact land_x m c s
    | xa => exact land_xa m c
    | zd s => cases hu
    | yd s => cases hu
    | yf s => cases hu
    | zf s => cases hu
  refine step_send_core m t hn hs0 ?_ ?_ fullShare (Sc m c) ?_ ?_ (fun fd => ?_) hk
  · unfold stock; rw [hu]; exact if_pos hp
  · cases t with
    | x s => rfl
    | xa => rfl
    | zd s => cases hu
    | yd s => cases hu
    | yf s => cases hu
    | zf s => cases hu
  · rw [hsrcE]
    exact congrArg (fun S => (((c : Thread nD τ).loc cc0_scratch1) ↦[S]{fullShare} Sc m c : sProp 𝕄)) src_set.symm
  · unfold slot rcvPts
    rw [soff_eq]
    exact exists_mono fun f => Entails.of_eq (congrArg (fun S => ((((dest t c : Dev nD) : Thread nD τ).loc cc0_scratch2) ↦[S]{fullShare} f : sProp 𝕄)) dst_set.symm)
  · unfold slot rcvPts
    rw [soff_eq]
    have e : ∀ f, ((((dest t c : Dev nD) : Thread nD τ).loc cc0_scratch2) ↦[((Memref.whole cc0_scratch2 : Memref sig .tc .vmem S2048x2048 .bf16).slice (Rect.unit (s := S2048x2048) ![soff c t, 0] ![len t, 2048] inb2) hr2).view.set]{fullShare} f : sProp 𝕄)
        = ((((dest t c : Dev nD) : Thread nD τ).loc cc0_scratch2) ↦[rows (s := S2048x2048) 0 (soff c t) (len t)]{fullShare} f) := fun f => congrArg (fun S => ((((dest t c : Dev nD) : Thread nD τ).loc cc0_scratch2) ↦[S]{fullShare} f : sProp 𝕄)) dst_set
    refine Entails.of_eq ((e _).trans (pointsTo_congr fun i hi => ?_))
    exact (copy_snd_rcv inb1 inb2 fd (Sc m c) i hi).trans (hland i hi)

/-- A received piece is passed on. -/
theorem step_pass (t u : T) (hu : srcT t = some u) (hn : n = ord t) (hs0 : s = 0) (hr' : rord u < r)
    {nn : Dev nD} {ss rs : DmaSem sig} {off1 off2 : Fin 2 → ℕ} {inb1 inb2 hr1 hr2 hsc h1 h2 h3}
    (hd : nn = dest t c) (hss : ss = sndS t) (hrs : rs = rcvS t) (ho1 : off1 = ![soff c t, 0]) (ho2 : off2 = ![soff c t, 0])
    {Q : PUnit → sProp 𝕄} (hk : St m K c 4 e w p (ord t + 1) r s k ⊢ Q ⟨⟩) :
    St m K c 4 e w p n r s k ⊢ wpc c (Prog.lift (.enqueueDma
      ((Memref.whole cc0_scratch2 : Memref sig .tc .vmem S2048x2048 .bf16).slice (Rect.unit (s := S2048x2048) off1 S64x2048.size inb1) hr1)
      (.remote (Dev.tc nn : Thread nD τ) ((Memref.whole cc0_scratch2 : Memref sig .tc .vmem S2048x2048 .bf16).slice (Rect.unit (s := S2048x2048) off2 S64x2048.size inb2) hr2) (.dma ss) hsc)
      (.dma rs) h1 h2 h3)) Q := by
  subst hd hss hrs ho1 ho2
  refine step_send_core m t hn hs0 ?_ ?_ (qsh t) (Rc m c) ?_ ?_ (fun fd => ?_) hk
  · unfold stock; rw [hu]; exact if_pos hr'
  · cases t with
    | xa => cases hu
    | x s => rfl
    | zd s => rfl
    | yd s => rfl
    | yf s => rfl
    | zf s => rfl
  · rw [srcPts_pass m c t u hu]
    exact congrArg (fun S => (((c : Thread nD τ).loc cc0_scratch2) ↦[S]{qsh t} Rc m c : sProp 𝕄)) dst_set.symm
  · unfold slot rcvPts
    rw [soff_eq, len_pass t u hu]
    exact exists_mono fun f => Entails.of_eq (congrArg (fun S => ((((dest t c : Dev nD) : Thread nD τ).loc cc0_scratch2) ↦[S]{fullShare} f : sProp 𝕄)) dst_set.symm)
  · unfold slot rcvPts
    rw [soff_eq, len_pass t u hu]
    have e : ∀ f, ((((dest t c : Dev nD) : Thread nD τ).loc cc0_scratch2) ↦[((Memref.whole cc0_scratch2 : Memref sig .tc .vmem S2048x2048 .bf16).slice (Rect.unit (s := S2048x2048) ![soff c t, 0] S64x2048.size inb2) hr2).view.set]{fullShare} f : sProp 𝕄)
        = ((((dest t c : Dev nD) : Thread nD τ).loc cc0_scratch2) ↦[rows (s := S2048x2048) 0 (soff c t) 64]{fullShare} f) := fun f => congrArg (fun S => ((((dest t c : Dev nD) : Thread nD τ).loc cc0_scratch2) ↦[S]{fullShare} f : sProp 𝕄)) dst_set
    refine Entails.of_eq ((e _).trans (pointsTo_congr fun i hi => ?_))
    exact (copy_rcv_rcv inb1 inb2 fd (Rc m c) i hi).trans (pass_val m c t u hu i (by rw [soff_eq]; exact hi))

end Cert.KernelIdealProof
-- ==== Proof.KernelIdealLoads.lean ====
/-
# The loads and stores of a device

Each load finds its rows among what the device holds, and leaves them there; each store of a piece of the send buffer or
of a quarter of the output moves the state on by one.
-/
module

public import proofs.«01_k».proof.Proof.KernelIdealMoves

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {K : Dev nD × Cl → ℕ} {c : Dev nD} {b e w p n r s k : ℕ}

/-! ## A load and a store from any state that holds the rows -/

/-- A load from a state that holds the rows it reads: the state is unchanged. -/
theorem load_of {sp : CoreSpace} {sh : Shape} {el : EltTy} {M : Memref sig .tc sp sh el} {R : Rect sh} {hl : M.view.LoadsAt R.toLoadRect}
    {S : Finset (Idx ((M.access R).loc (c : Thread nD τ)))} {q : PosShare TreeShare} {f : Buf (Elt F) ((M.access R).loc (c : Thread nD τ))}
    (hS : (M.access R).set ⊆ S) {P : sProp 𝕄}
    (hg : P ⊢ iprop(((M.access R).loc (c : Thread nD τ) ↦[S]{q} f) ∗ (((M.access R).loc (c : Thread nD τ) ↦[S]{q} f) -∗ P)))
    {Q : (R.shape.Idx → Elt F el) → sProp 𝕄} (hk : P ⊢ Q ((M.access R).read (Elt F) f)) :
    P ⊢ wpc c (Prog.lift (.load M R.toLoadRect hl)) Q := by
  unfold wpc
  simp only [Prog.lift]
  refine hg.trans ?_
  iintro ⟨H, Hb⟩
  iapply (wp_load_rect 𝒱₀ (c : Thread nD τ) none Set.univ (m := M) (r := R) hS) $$ H
  iintro H
  rw [wp_ret]; imodintro
  iapply hk
  iapply Hb; iexact H

/-- A store from a state that holds the rows it fills. -/
theorem store_of {sp : CoreSpace} {sh : Shape} {el : EltTy} {M : Memref sig .tc sp sh el} {R : Rect sh} {v : R.shape.Idx → Elt F el} {hx hm}
    {S : Finset (Idx ((M.access R).loc (c : Thread nD τ)))} (hS : (M.access R).set ⊆ S) {P P' : sProp 𝕄}
    (hg : P ⊢ iprop(∃ f, ((M.access R).loc (c : Thread nD τ) ↦[S]{fullShare} f)
      ∗ (((M.access R).loc (c : Thread nD τ) ↦[S]{fullShare} ((M.access R).write (Elt F) f v Finset.univ)) -∗ P')))
    {Q : PUnit → sProp 𝕄} (hk : P' ⊢ Q ⟨⟩) :
    P ⊢ wpc c (Prog.lift (.store M R v Finset.univ hx hm)) Q := by
  unfold wpc
  simp only [Prog.lift]
  refine hg.trans ?_
  iintro ⟨%f, H, Hb⟩
  iapply (wp_store 𝒱₀ (c : Thread nD τ) none Set.univ (m := M) (r := R) (Mk := Finset.univ) hS) $$ H
  iintro H
  rw [wp_ret]; imodintro
  iapply hk
  iapply Hb; iexact H

/-! ## The staging buffer -/

/-- A filled part of the staging buffer is held. -/
theorem stg_get (i : Fin 10) (hi : i.val < 9) (hw : i.val < w) :
    St m K c b e w p n r s k ⊢ iprop(stgPts c (ldst i) (llen i) (Gc m c) ∗ (stgPts c (ldst i) (llen i) (Gc m c) -∗ St m K c b e w p n r s k)) := by
  have h1 : Loc1 m c e w i = iprop(semVal (locCell c i) 0 ∗ argPts m c (lsrc c i) (llen i) ∗ stgPts c (ldst i) (llen i) (Gc m c)) := by
    unfold Loc1 ldstPts; rw [if_pos hw, if_pos hi, if_pos hi]
  unfold St
  iintro ⟨#HI, HO, HB, HL, HS, HR, HU, HG⟩
  icases (bigSep_univ_update i (fun _ _ => rfl)) $$ HL with ⟨HL1, HLr⟩
  icases (Entails.of_eq h1) $$ HL1 with ⟨Hz, Ha, Hd⟩
  isplitl [Hd]; · iexact Hd
  iintro Hd
  isplitr; · iexact HI
  isplitl [HO]; · iexact HO
  isplitl [HB]; · iexact HB
  isplitl [HLr Hz Ha Hd]
  · iapply HLr; iapply (Entails.of_eq h1.symm); isplitl [Hz]; · iexact Hz
    isplitl [Ha]; · iexact Ha
    iexact Hd
  isplitl [HS]; · iexact HS
  isplitl [HR]; · iexact HR
  isplitl [HU]; · iexact HU
  iexact HG

/-- A filled part of the staging buffer is loaded. -/
theorem step_load_stg {n' : ℕ} (i : Fin 10) (hi : i.val < 9) (hn : llen i = n') (hw : i.val < w) {off : Fin 2 → ℕ} {inb h1}
    (ho : off = ![ldst i, 0]) {Q : ((⟨2, ![n', 2048]⟩ : Shape).Idx → Elt F .f32) → sProp 𝕄}
    (hk : St m K c b e w p n r s k ⊢ Q fun x => Gc m c (ix2 (R := 704) (ldst i + (x 0).val) (x 1))) :
    St m K c b e w p n r s k ⊢ wpc c (Prog.lift (.load (Memref.whole cc0_scratch0 : Memref sig .tc .vmem S704x2048 .f32)
      (Rect.unit (s := S704x2048) off ![n', 2048] inb).toLoadRect h1)) Q := by
  subst ho hn
  refine load_of (M := (Memref.whole cc0_scratch0 : Memref sig .tc .vmem S704x2048 .f32)) (R := Rect.unit (s := S704x2048) ![ldst i, 0] ![llen i, 2048] inb)
    (f := Gc m c) (q := fullShare) (S := rows (s := S704x2048) 0 (ldst i) (llen i)) ?_ ?_ (hk.trans (Entails.of_eq (congrArg Q ?_)))
  · exact ((View.set_slice_whole _ _).trans (unit_rows _)).subset
  · exact stg_get m i hi hw
  · exact funext fun x => (congrArg (Gc m c) (ix2_add inb x)).symm

/-! ## The send buffer -/

/-- A part of the send buffer not yet filled is held, and once filled the state moves on. -/
theorem snd_get (t : T) (hu : srcT t = none) (hp : p = ord t) (hn : n ≤ ord t) (hs0 : s = 0) :
    St m K c b e w p n r s k ⊢ iprop(∃ f, sndPts (F := F) c (64 * ord t) (len t) f
      ∗ ((sndPts c (64 * ord t) (len t) f -∗ St m K c b e w p n r s k) ∧ (sndPts c (64 * ord t) (len t) (Sc m c) -∗ St m K c b e w (ord t + 1) n r s k))) := by
  subst hs0 hp
  have hsrcE : srcPts m c t = sndPts c (64 * ord t) (len t) (Sc m c) := by
    cases t with
    | x s => rfl
    | xa => rfl
    | zd s => cases hu
    | yd s => cases hu
    | yf s => cases hu
    | zf s => cases hu
  have h1 : ∀ p, Snd1 m c b p n r 0 t = iprop(dutyTok ER (sndCell c t) 0 0 ∗ dutyTok ER (rcvCell (dest t c) t) 0 0 ∗ at0 (F := F) c (some (.inl t))
    ∗ (if b = 4 then iprop(∃ f, slot (F := F) (dest t c) t f) else iprop(emp)) ∗ (if ord t < p then srcPts m c t else iprop(∃ f, sndPts (F := F) c (64 * ord t) (len t) f))) := by
    intro p
    unfold Snd1 stock; rw [if_neg (Nat.not_lt_zero _), if_neg (Nat.not_lt.mpr hn), hu]
  have h2 := h1 (ord t)
  rw [if_neg (lt_irrefl _)] at h2
  have h3 := h1 (ord t + 1)
  rw [if_pos (Nat.lt_succ_self _), hsrcE] at h3
  have hoth : ∀ t', t' ≠ t → Snd1 m c b (ord t + 1) n r 0 t' = Snd1 m c b (ord t) n r 0 t' := by
    intro t' hne
    have ho : ord t' ≠ ord t := fun h => hne (ord_inj h)
    have hst : stock m c (ord t + 1) r t' = stock m c (ord t) r t' := by
      unfold stock
      cases srcT t' with
      | none => exact if_congr (by omega) rfl rfl
      | some u => rfl
    unfold Snd1; rw [hst]
  unfold St
  iintro ⟨#HI, HO, HB, HL, HS, HR, HU, HG⟩
  have hsp : (bigSep Finset.univ fun t' : T => Snd1 m c b (ord t) n r 0 t') ⊢ iprop(Snd1 m c b (ord t) n r 0 t
      ∗ ((Snd1 m c b (ord t) n r 0 t -∗ bigSep Finset.univ fun t' : T => Snd1 m c b (ord t) n r 0 t')
        ∧ (Snd1 m c b (ord t + 1) n r 0 t -∗ bigSep Finset.univ fun t' : T => Snd1 m c b (ord t + 1) n r 0 t'))) := by
    have e1 : (bigSep Finset.univ fun t' : T => Snd1 m c b (ord t) n r 0 t')
        = iprop(Snd1 m c b (ord t) n r 0 t ∗ bigSep (Finset.univ.erase t) fun t' : T => Snd1 m c b (ord t) n r 0 t') := bigSep_univ_split t
    have e2 : (bigSep Finset.univ fun t' : T => Snd1 m c b (ord t + 1) n r 0 t')
        = iprop(Snd1 m c b (ord t + 1) n r 0 t ∗ bigSep (Finset.univ.erase t) fun t' : T => Snd1 m c b (ord t) n r 0 t') :=
      (bigSep_univ_split t).trans (congrArg (BI.sep (Snd1 m c b (ord t + 1) n r 0 t)) (bigSep_congr fun t' ht' => hoth t' (Finset.ne_of_mem_erase ht')))
    rw [e1, e2]
    iintro ⟨H1, H2⟩
    isplitl [H1]; · iexact H1
    isplit
    · iintro H1; isplitl [H1]; · iexact H1
      iexact H2
    · iintro H1; isplitl [H1]; · iexact H1
      iexact H2
  icases hsp $$ HS with ⟨HS1, HSr⟩
  icases (Entails.of_eq h2) $$ HS1 with ⟨Hd1, Hd2, Ha, Hsl, ⟨%f, Hf⟩⟩
  iexists f
  isplitl [Hf]; · iexact Hf
  isplit
  · iintro Hf
    isplitr; · iexact HI
    isplitl [HO]; · iexact HO
    isplitl [HB]; · iexact HB
    isplitl [HL]; · iexact HL
    isplitl [HSr Hd1 Hd2 Ha Hsl Hf]
    · icases HSr with ⟨HSr, -⟩
      iapply HSr; iapply (Entails.of_eq h2.symm)
      isplitl [Hd1]; · iexact Hd1
      isplitl [Hd2]; · iexact Hd2
      isplitl [Ha]; · iexact Ha
      isplitl [Hsl]; · iexact Hsl
      iexists f; iexact Hf
    isplitl [HR]; · iexact HR
    isplitl [HU]; · iexact HU
    iexact HG
  · iintro Hf
    isplitr; · iexact HI
    isplitl [HO]; · iexact HO
    isplitl [HB]; · iexact HB
    isplitl [HL]; · iexact HL
    isplitl [HSr Hd1 Hd2 Ha Hsl Hf]
    · icases HSr with ⟨-, HSr⟩
      iapply HSr; iapply (Entails.of_eq h3.symm)
      isplitl [Hd1]; · iexact Hd1
      isplitl [Hd2]; · iexact Hd2
      isplitl [Ha]; · iexact Ha
      isplitl [Hsl]; · iexact Hsl
      iexact Hf
    isplitl [HR]; · iexact HR
    isplitl [HU]; · iexact HU
    iexact HG

theorem snd_set {n' o : ℕ} {inb} : ((Memref.whole cc0_scratch1 : Memref sig .tc .vmem S704x2048 .bf16).access (Rect.unit (s := S704x2048) ![o, 0] ![n', 2048] inb)).set
    = rows (s := S704x2048) 0 o n' := (View.set_slice_whole _ _).trans (unit_rows _)

/-- A part of the send buffer is loaded before it is filled; nothing is known of what it holds. -/
theorem step_load_snd {n' : ℕ} (t : T) (hu : srcT t = none) (hl : len t = n') (hp : p = ord t) (hn : n ≤ ord t) (hs0 : s = 0)
    {off : Fin 2 → ℕ} {inb h1} (ho : off = ![64 * ord t, 0]) {Q : ((⟨2, ![n', 2048]⟩ : Shape).Idx → Elt F .bf16) → sProp 𝕄}
    (hk : ∀ v, St m K c b e w p n r s k ⊢ Q v) :
    St m K c b e w p n r s k ⊢ wpc c (Prog.lift (.load (Memref.whole cc0_scratch1 : Memref sig .tc .vmem S704x2048 .bf16)
      (Rect.unit (s := S704x2048) off ![n', 2048] inb).toLoadRect h1)) Q := by
  subst ho hl
  refine (snd_get m t hu hp hn hs0).trans ?_
  unfold wpc
  simp only [Prog.lift]
  iintro ⟨%f, H, Hb⟩
  unfold sndPts
  iapply (wp_load_rect 𝒱₀ (c : Thread nD τ) none Set.univ (m := (Memref.whole cc0_scratch1 : Memref sig .tc .vmem S704x2048 .bf16)) (r := Rect.unit (s := S704x2048) ![64 * ord t, 0] ![len t, 2048] inb)
    (S := rows (s := S704x2048) 0 (64 * ord t) (len t)) snd_set.subset) $$ H
  iintro H
  rw [wp_ret]; imodintro
  iapply (hk _)
  icases Hb with ⟨Hb, -⟩
  iapply Hb; iexact H

/-- A part of the send buffer is filled. -/
theorem step_store_snd {n' : ℕ} (t : T) (hu : srcT t = none) (hl : len t = n') (hp : p = ord t) (hn : n ≤ ord t) (hs0 : s = 0)
    {off : Fin 2 → ℕ} {inb hx hm} {v : (⟨2, ![n', 2048]⟩ : Shape).Idx → Elt F .bf16} (ho : off = ![64 * ord t, 0])
    (hv : ∀ x, v x = Sc m c (ix2 (R := 704) (64 * ord t + (x 0).val) (x 1)))
    {Q : PUnit → sProp 𝕄} (hk : St m K c b e w (ord t + 1) n r s k ⊢ Q ⟨⟩) :
    St m K c b e w p n r s k ⊢ wpc c (Prog.lift (.store (Memref.whole cc0_scratch1 : Memref sig .tc .vmem S704x2048 .bf16)
      (Rect.unit (s := S704x2048) off ![n', 2048] inb) v Finset.univ hx hm)) Q := by
  subst ho hl
  refine store_of (M := (Memref.whole cc0_scratch1 : Memref sig .tc .vmem S704x2048 .bf16)) (R := Rect.unit (s := S704x2048) ![64 * ord t, 0] ![len t, 2048] inb)
    (S := rows (s := S704x2048) 0 (64 * ord t) (len t)) snd_set.subset ?_ hk
  refine (snd_get m t hu hp hn hs0).trans (exists_mono fun f => ?_)
  have e : ((((c : Dev nD) : Thread nD τ).loc cc0_scratch1) ↦[rows (s := S704x2048) 0 (64 * ord t) (len t)]{fullShare}
      ((View.whole cc0_scratch1).slice (Rect.unit (s := S704x2048) ![64 * ord t, 0] ![len t, 2048] inb)).write (Elt F) f v Finset.univ : sProp 𝕄)
      = sndPts c (64 * ord t) (len t) (Sc m c) :=
    pointsTo_congr fun i hi => store_snd inb f (Sc m c) v hv i hi
  iintro ⟨H, Hb⟩
  isplitl [H]; · unfold sndPts; iexact H
  iintro H
  icases Hb with ⟨-, Hb⟩
  iapply Hb
  iapply (Entails.of_eq e); iexact H

/-! ## The scale vector -/

/-- The scale vector is loaded. -/
theorem step_load_gam {inb h1} {Q : (S2048.Idx → Elt F .f32) → sProp 𝕄} (hk : St m K c b e w p n r s k ⊢ Q (gam m c)) :
    St m K c b e w p n r s k ⊢ wpc c (Prog.lift (.load (Memref.whole cc0_stg0_0 : Memref sig .tc .vmem S2048 .f32)
      (Rect.unit (s := S2048) ![0] S2048.size inb).toLoadRect h1)) Q := by
  refine load_of (M := (Memref.whole cc0_stg0_0 : Memref sig .tc .vmem S2048 .f32)) (R := Rect.unit (s := S2048) ![0] S2048.size inb)
    (f := gam m c) (q := fullShare) (S := Finset.univ) (Finset.subset_univ _) ?_ (hk.trans (Entails.of_eq (congrArg Q ?_)))
  · unfold St
    iintro ⟨#HI, HO, HB, HL, HS, HR, HU, HG⟩
    isplitl [HG]; · unfold gamPts; iexact HG
    iintro HG
    isplitr; · iexact HI
    isplitl [HO]; · iexact HO
    isplitl [HB]; · iexact HB
    isplitl [HL]; · iexact HL
    isplitl [HS]; · iexact HS
    isplitl [HR]; · iexact HR
    isplitl [HU]; · iexact HU
    unfold gamPts; iexact HG
  · exact (Memref.readAt_unit_zero (Elt F) cc0_stg0_0 (by funext a; fin_cases a; rfl) inb (gam m c)).symm

/-! ## The output -/

theorem out_set {o : ℕ} {inb} : ((Memref.whole cc0_stg1_0 : Memref sig .tc .vmem S2048x2048 .f32).access (Rect.unit (s := S2048x2048) ![o, 0] ![512, 2048] inb)).set
    = rows (s := S2048x2048) 0 o 512 := (View.set_slice_whole _ _).trans (unit_rows _)

/-- The output's staging buffer is held once the device's own rows are there. -/
theorem out_get (hw : 10 ≤ w) (k' : ℕ) :
    St m K c b e w p n r s k ⊢ iprop(outPts c (outC m c k) ∗ (outPts c (outC m c k') -∗ St m K c b e w p n r s k')) := by
  unfold St Out
  rw [if_pos hw, if_pos hw]
  iintro ⟨#HI, HO, HB, HL, HS, HR, HU, HG⟩
  isplitl [HU]; · iexact HU
  iintro HU
  isplitr; · iexact HI
  isplitl [HO]; · iexact HO
  isplitl [HB]; · iexact HB
  isplitl [HL]; · iexact HL
  isplitl [HS]; · iexact HS
  isplitl [HR]; · iexact HR
  isplitl [HU]; · iexact HU
  iexact HG

/-- The quarter next to be normalised still holds the device's own rows. -/
theorem qrt_outC (hk4 : k < 4) : qrt (512 * qtr c k) (outC m c k) = qrt (512 * qtr c k) (Oc m c) := by
  funext x
  have h1 := pos_qtr c ⟨k, hk4⟩
  have h2 := qtr_lt c ⟨k, hk4⟩
  have hx : (x 0).val < 512 := (x 0).isLt
  simp only at h1 h2
  have h3 : ((ix2 (R := 2048) (512 * qtr c k + (x 0).val) (x 1)) 0).val / 512 = qtr c k := by
    have e : ((ix2 (R := 2048) (512 * qtr c k + (x 0).val) (x 1)) 0).val = 512 * qtr c k + (x 0).val := ix2_zero _ _ (by omega)
    omega
  unfold qrt outC
  refine if_neg ?_
  have h4 : pos c (((ix2 (R := 2048) (512 * qtr c k + (x 0).val) (x 1)) 0).val / 512) = k := (congrArg (pos c) h3).trans h1
  exact fun h => lt_irrefl k (lt_of_eq_of_lt h4.symm h)

/-- The quarter next to be normalised is loaded. -/
theorem step_load_out (hw : 10 ≤ w) (hk4 : k < 4) {off : Fin 2 → ℕ} {inb h1} (ho : off = ![512 * qtr c k, 0])
    {Q : (S512x2048.Idx → Elt F .f32) → sProp 𝕄} (hk : St m K c b e w p n r s k ⊢ Q (qrt (512 * qtr c k) (Oc m c))) :
    St m K c b e w p n r s k ⊢ wpc c (Prog.lift (.load (Memref.whole cc0_stg1_0 : Memref sig .tc .vmem S2048x2048 .f32)
      (Rect.unit (s := S2048x2048) off S512x2048.size inb).toLoadRect h1)) Q := by
  subst ho
  refine load_of (M := (Memref.whole cc0_stg1_0 : Memref sig .tc .vmem S2048x2048 .f32)) (R := Rect.unit (s := S2048x2048) ![512 * qtr c k, 0] S512x2048.size inb)
    (f := outC m c k) (q := fullShare) (S := Finset.univ) (Finset.subset_univ _) ?_ (hk.trans (Entails.of_eq (congrArg Q ?_)))
  · exact out_get m hw k
  rw [← qrt_outC m hk4]
  exact funext fun x => (congrArg (outC m c k) (ix2_add inb x)).symm

/-- A quarter is normalised in the output's staging buffer. -/
theorem outC_step (hk4 : k < 4) (inb : ∀ a, (![512 * qtr c k, 0] : Fin 2 → ℕ) a + (![512, 2048] : Fin 2 → ℕ) a ≤ (![2048, 2048] : Fin 2 → ℕ) a) :
    ((View.whole cc0_stg1_0).slice (Rect.unit (s := S2048x2048) ![512 * qtr c k, 0] ![512, 2048] inb)).write (Elt F) (outC m c k) (Nc m c (qtr c k)) Finset.univ
      = outC m c (k + 1) := by
  funext i
  have h1 := pos_qtr c ⟨k, hk4⟩
  have h2 := qtr_lt c ⟨k, hk4⟩
  have hi : (i 0).val < 2048 := (i 0).isLt
  simp only at h1 h2
  refine (store_out inb _ _ i).trans ?_
  by_cases h : 512 * qtr c k ≤ (i 0).val ∧ (i 0).val < 512 * qtr c k + 512
  · have hq : (i 0).val / 512 = qtr c k := by omega
    rw [if_pos h]
    unfold outC
    rw [hq, h1, if_pos (Nat.lt_succ_self _), show (i 0).val - 512 * qtr c k = (i 0).val % 512 by omega]
  · rw [if_neg h]
    have hq : (i 0).val / 512 ≠ qtr c k := by omega
    have h3 := qtr_pos c ⟨(i 0).val / 512, by omega⟩
    simp only at h3
    have h4 : pos c ((i 0).val / 512) ≠ k := fun h' => hq (by rw [h'] at h3; exact h3.symm)
    unfold outC
    exact if_congr (by omega) rfl rfl

/-- The quarter next to be normalised is normalised. -/
theorem step_store_out (hw : 10 ≤ w) (hk4 : k < 4) {off : Fin 2 → ℕ} {inb hx hm} (ho : off = ![512 * qtr c k, 0])
    {v : S512x2048.Idx → Elt F .f32} (hv : v = Nc m c (qtr c k))
    {Q : PUnit → sProp 𝕄} (hk : St m K c b e w p n r s (k + 1) ⊢ Q ⟨⟩) :
    St m K c b e w p n r s k ⊢ wpc c (Prog.lift (.store (Memref.whole cc0_stg1_0 : Memref sig .tc .vmem S2048x2048 .f32)
      (Rect.unit (s := S2048x2048) off S512x2048.size inb) v Finset.univ hx hm)) Q := by
  subst ho hv
  refine store_of (M := (Memref.whole cc0_stg1_0 : Memref sig .tc .vmem S2048x2048 .f32)) (R := Rect.unit (s := S2048x2048) ![512 * qtr c k, 0] S512x2048.size inb)
    (S := Finset.univ) (Finset.subset_univ _) ?_ hk
  refine (out_get m hw (k + 1)).trans ?_
  iintro ⟨H, Hb⟩
  iexists (outC m c k)
  isplitl [H]; · unfold outPts; iexact H
  iintro H
  iapply Hb
  unfold outPts
  iapply (Entails.of_eq (congrArg (fun f => (((c : Thread nD τ).loc cc0_stg1_0) ↦[Finset.univ]{fullShare} f : sProp 𝕄)) (outC_step m hk4 inb))); iexact H

/-! ## The receive buffer -/

/-- The pieces that make up quarter `j` of the receive buffer. -/
def qpc (c : Dev nD) (j : ℕ) : Finset T := Finset.univ.filter fun t => 512 * j ≤ roff c t ∧ roff c t < 512 * j + 512

theorem qpc_in : ∀ (c : Dev nD) (j : Fin 4) (t : T), 512 * j.val ≤ roff c t ∧ roff c t < 512 * j.val + 512 → roff c t + len t ≤ 512 * j.val + 512 := by
  decide +kernel
theorem qpc_cover : ∀ (c : Dev nD) (j : Fin 4) (g : Fin 8), ∃ t : T, (512 * j.val ≤ roff c t ∧ roff c t < 512 * j.val + 512)
    ∧ roff c t ≤ 512 * j.val + 64 * g.val ∧ 512 * j.val + 64 * g.val + 64 ≤ roff c t + len t := by
  decide +kernel

/-- The pieces of a quarter cover its rows. -/
theorem qpc_rows (c : Dev nD) (j : Fin 4) :
    (qpc c j.val).biUnion (fun t => rows (s := S2048x2048) 0 (roff c t) (len t)) = rows (s := S2048x2048) 0 (512 * j.val) 512 := by
  ext i
  rw [Finset.mem_biUnion, mem_rows]
  constructor
  · rintro ⟨t, ht, hi⟩
    have h := (Finset.mem_filter.mp ht).2
    have h' := qpc_in c j t h
    rw [mem_rows] at hi
    omega
  · intro h
    obtain ⟨t, ht, h1, h2⟩ := qpc_cover c j ⟨((i 0).val - 512 * j.val) / 64, by omega⟩
    refine ⟨t, Finset.mem_filter.mpr ⟨Finset.mem_univ _, ht⟩, ?_⟩
    rw [mem_rows]
    simp only at h1 h2
    omega

omit [FloatOps F] in
theorem sep_swap (A B C : sProp 𝕄) : iprop(A ∗ B ∗ C) = iprop(B ∗ A ∗ C) := by
  have h : ∀ A B C : sProp 𝕄, iprop(A ∗ B ∗ C) ⊢ iprop(B ∗ A ∗ C) := by
    intro A B C
    iintro ⟨H1, H2, H3⟩
    isplitl [H2]; · iexact H2
    isplitl [H1]; · iexact H1
    iexact H3
  exact equiv_iff.mp ⟨h A B C, h B A C⟩
omit [FloatOps F] in
theorem sep_regroup (A B C : sProp 𝕄) : iprop((A ∗ B) ∗ C) = iprop(A ∗ B ∗ C) := by
  have h1 : iprop((A ∗ B) ∗ C) ⊢ iprop(A ∗ B ∗ C) := by
    iintro ⟨⟨H1, H2⟩, H3⟩
    isplitl [H1]; · iexact H1
    isplitl [H2]; · iexact H2
    iexact H3
  have h2 : iprop(A ∗ B ∗ C) ⊢ iprop((A ∗ B) ∗ C) := by
    iintro ⟨H1, H2, H3⟩
    isplitl [H1 H2]
    · isplitl [H1]; · iexact H1
      iexact H2
    iexact H3
  exact equiv_iff.mp ⟨h1, h2⟩

/-- A quarter of the receive buffer all of whose pieces have arrived is held. -/
theorem rcv_get (j : Fin 4) (hq : ∀ t, 512 * j.val ≤ roff c t → roff c t < 512 * j.val + 512 → rord t < r) :
    St m K c b e w p n r s k ⊢ iprop(rcvPts c (512 * j.val) 512 fullShare.left (Rc m c)
      ∗ (rcvPts c (512 * j.val) 512 fullShare.left (Rc m c) -∗ St m K c b e w p n r s k)) := by
  have e1 : rcvPts c (512 * j.val) 512 fullShare.left (Rc m c) = bigSep (qpc c j.val) fun t => rcvPts c (roff c t) (len t) fullShare.left (Rc m c) := by
    unfold rcvPts
    rw [← qpc_rows]
    exact pointsTo_biUnion _ _ fun t _ t' _ hne => rows_disj (roff_disj c t t' hne)
  have e2 : (bigSep Finset.univ fun t : T => Rcv1 m c r t)
      = iprop((bigSep (qpc c j.val) fun t => rcvPts c (roff c t) (len t) fullShare.left (Rc m c))
        ∗ (bigSep (qpc c j.val) fun t => iprop(semVal (rcvCell c t) 0 ∗ if fws t = ∅ then rcvPts c (roff c t) (len t) fullShare.right (Rc m c) else iprop(emp)))
        ∗ bigSep (Finset.univ \ qpc c j.val) fun t => Rcv1 m c r t) := by
    have h1 : ∀ t ∈ qpc c j.val, Rcv1 m c r t = iprop(rcvPts c (roff c t) (len t) fullShare.left (Rc m c)
        ∗ semVal (rcvCell c t) 0 ∗ if fws t = ∅ then rcvPts c (roff c t) (len t) fullShare.right (Rc m c) else iprop(emp)) := by
      intro t ht
      have h := (Finset.mem_filter.mp ht).2
      unfold Rcv1 kept
      rw [if_pos (hq t h.1 h.2)]
      exact sep_swap _ _ _
    have h2 : (bigSep (qpc c j.val) fun t => Rcv1 m c r t) = iprop((bigSep (qpc c j.val) fun t => rcvPts c (roff c t) (len t) fullShare.left (Rc m c))
        ∗ (bigSep (qpc c j.val) fun t => iprop(semVal (rcvCell c t) 0 ∗ if fws t = ∅ then rcvPts c (roff c t) (len t) fullShare.right (Rc m c) else iprop(emp)))) :=
      (bigSep_congr h1).trans (bigSep_sep' _ _ _)
    have h3 : (bigSep Finset.univ fun t : T => Rcv1 m c r t) = iprop((bigSep (qpc c j.val) fun t => Rcv1 m c r t) ∗ bigSep (Finset.univ \ qpc c j.val) fun t => Rcv1 m c r t) :=
      bigSep_sdiff_split (Finset.subset_univ _)
    rw [h3, h2]
    exact sep_regroup _ _ _
  unfold St
  rw [e1, e2]
  iintro ⟨#HI, HO, HB, HL, HS, ⟨HR1, HR2, HR3⟩, HU, HG⟩
  isplitl [HR1]; · iexact HR1
  iintro HR1
  isplitr; · iexact HI
  isplitl [HO]; · iexact HO
  isplitl [HB]; · iexact HB
  isplitl [HL]; · iexact HL
  isplitl [HS]; · iexact HS
  isplitl [HR1 HR2 HR3]
  · isplitl [HR1]; · iexact HR1
    isplitl [HR2]; · iexact HR2
    iexact HR3
  isplitl [HU]; · iexact HU
  iexact HG

/-- When the pieces of the quarter normalised `k'`-th have all arrived. -/
def qdone : ℕ → ℕ
  | 0 => 12 | 1 => 18 | 2 => 24 | _ => 30
theorem qtr_done : ∀ (c : Dev nD) (k' : Fin 4) (t : T), 512 * qtr c k'.val ≤ roff c t → roff c t < 512 * qtr c k'.val + 512 → rord t < qdone k'.val := by
  decide +kernel

/-- A quarter of the receive buffer is loaded. -/
theorem step_load_rcv (hk4 : k < 4) (hr : qdone k ≤ r) {off : Fin 2 → ℕ} {inb h1} (ho : off = ![512 * qtr c k, 0])
    {Q : (S512x2048.Idx → Elt F .bf16) → sProp 𝕄} (hk : St m K c b e w p n r s k ⊢ Q (qrt (512 * qtr c k) (Rc m c))) :
    St m K c b e w p n r s k ⊢ wpc c (Prog.lift (.load (Memref.whole cc0_scratch2 : Memref sig .tc .vmem S2048x2048 .bf16)
      (Rect.unit (s := S2048x2048) off S512x2048.size inb).toLoadRect h1)) Q := by
  subst ho
  have h := rcv_get (F := F) m (K := K) (c := c) (b := b) (e := e) (w := w) (p := p) (n := n) (r := r) (s := s) (k := k) ⟨qtr c k, qtr_lt c ⟨k, hk4⟩⟩
    fun t h1 h2 => lt_of_lt_of_le (qtr_done c ⟨k, hk4⟩ t h1 h2) hr
  refine load_of (M := (Memref.whole cc0_scratch2 : Memref sig .tc .vmem S2048x2048 .bf16)) (R := Rect.unit (s := S2048x2048) ![512 * qtr c k, 0] S512x2048.size inb)
    (f := Rc m c) (q := fullShare.left) (S := rows (s := S2048x2048) 0 (512 * qtr c k) 512) ?_ ?_ (hk.trans (Entails.of_eq (congrArg Q ?_)))
  · exact ((View.set_slice_whole _ _).trans (unit_rows _)).subset
  · exact h
  · exact funext fun x => (congrArg (Rc m c) (ix2_add inb x)).symm

end Cert.KernelIdealProof
-- ==== Proof.KernelIdealBody.lean ====
/-
# The body of the kernel

A device runs the kernel's body from the state before its first signal to the state after its last wait.  The steps are
taken in the order of the program; each part of the program has its theorem, and the last theorem puts them together.
-/
module

public import proofs.«01_k».proof.Proof.KernelIdealLoads

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The transfers in the three orders -/

/-- The transfers in the order of sending. -/
def tN (n : ℕ) : T :=
  [.x 0, .x 1, .x 2, .x 3, .x 4, .x 5, .x 6, .x 7, .xa, .zd 0, .yd 0, .zd 1, .yd 1, .zd 2, .yd 2, .zd 3, .yd 3, .yf 0,
    .zd 4, .yd 4, .yf 1, .zd 5, .yd 5, .yf 2, .zd 6, .yd 6, .zf 0, .zd 7, .yd 7, T.zf 1].getD n .xa
/-- The transfers in the order of waiting for what arrives. -/
def tR (r : ℕ) : T :=
  [.x 0, .x 1, .x 2, .x 3, .zd 0, .x 4, .zd 1, .x 5, .zd 2, .x 6, .yd 3, .x 7, .yd 4, .zd 3, .zd 4, .zd 5, .zd 6, .zd 7,
    .yd 0, .yd 1, .yd 2, .yd 5, .yd 6, .yd 7, .xa, .yf 0, .yf 1, .yf 2, .zf 0, T.zf 1].getD r .xa
/-- The transfers in the order of waiting for them to have left. -/
def tS (s : ℕ) : T :=
  [.x 0, .x 1, .x 2, .x 3, .x 4, .x 5, .x 6, .x 7, .xa, .zd 5, .yd 5, .zd 6, .yd 6, .zd 7, .yd 7, .zd 0, .yd 0, .zd 1, .yd 1,
    .zd 2, .yd 2, .zd 3, .yd 3, .zd 4, .yd 4, .yf 0, .yf 1, .yf 2, .zf 0, T.zf 1].getD s .xa

theorem ord_tN : ∀ n : Fin 30, ord (tN n.val) = n.val := by decide +kernel
theorem rord_tR : ∀ n : Fin 30, rord (tR n.val) = n.val := by decide +kernel
theorem sord_tS : ∀ n : Fin 30, sord (tS n.val) = n.val := by decide +kernel

section Steps
variable {K : Dev nD × Cl → ℕ} {c : Dev nD} {b e w p n r s k : ℕ}

/-- The next copy into the staging buffer has arrived. -/
theorem go_loc {sp sp' : Space} {sh sh' : Shape} {el el' : EltTy} {sm : DmaSem sig} {src : Memref sig .tc sp' sh' el'} {dst : Memref sig .tc sp sh el} {h1 h2}
    {Q : PUnit → sProp 𝕄} (hk : St m K c 4 10 (w + 1) p n r s k ⊢ Q ⟨⟩) (hw : w < 10 := by decide) (hk0 : w = 9 → k = 0 := by decide)
    (hs : sm = locS ⟨w, hw⟩ := by rfl) (hN : dst.view.dmaCredit = NL ⟨w, hw⟩ := by rfl) :
    St m K c 4 10 w p n r s k ⊢ wpc c (Prog.lift (.waitDma2 sm src dst h1 h2)) Q :=
  step_wait_loc m ⟨w, hw⟩ rfl le_rfl hk0 hs hN hk

/-- The next transfer has left. -/
theorem go_snd {sp sp' : Space} {sh sh' : Shape} {el el' : EltTy} {sm : DmaSem sig} {src : Memref sig .tc sp' sh' el'} {dst : Memref sig .tc sp sh el} {h1 h2}
    {Q : PUnit → sProp 𝕄} (hk : St m K c 4 e w p 30 r (s + 1) k ⊢ Q ⟨⟩) (hs' : s < 30 := by decide)
    (hs : sm = sndS (tS s) := by rfl) (hN : dst.view.dmaCredit = NT (tS s) := by rfl) :
    St m K c 4 e w p 30 r s k ⊢ wpc c (Prog.lift (.waitDma2 sm src dst h1 h2)) Q :=
  step_wait_snd m (tS s) (sord_tS ⟨s, hs'⟩).symm rfl hs hN (by have := sord_tS ⟨s, hs'⟩; simp only at this; rw [this]; exact hk)

/-- The next transfer has arrived. -/
theorem go_rcv {sp sp' : Space} {sh sh' : Shape} {el el' : EltTy} {sm : DmaSem sig} {src : Memref sig .tc sp' sh' el'} {dst : Memref sig .tc sp sh el} {h1 h2}
    {Q : PUnit → sProp 𝕄} (hk : St m K c 4 e w p n (r + 1) 0 k ⊢ Q ⟨⟩) (hr : r < 30 := by decide)
    (hc : ∀ t', n ≤ ord t' → levT (tR r) < levT t' := by decide +kernel) (hf : ∀ t', srcT t' = some (tR r) → n ≤ ord t' := by decide +kernel)
    (hs : sm = rcvS (tR r) := by rfl) (hN : dst.view.dmaCredit = NT (tR r) := by rfl) :
    St m K c 4 e w p n r 0 k ⊢ wpc c (Prog.lift (.waitDma2 sm src dst h1 h2)) Q :=
  step_wait_rcv m (tR r) (rord_tR ⟨r, hr⟩).symm hc hf rfl hs hN (by have := rord_tR ⟨r, hr⟩; simp only at this; rw [this]; exact hk)

/-- The next copy into the staging buffer begins. -/
theorem go_enq {n' : ℕ} (i : Fin 10) {off1 : Fin 3 → ℕ} {off2 : Fin 2 → ℕ} {inb1 inb2 hr1 hr2 hq} {sm : DmaSem sig} {h1 h2 h3}
    (ho1 : off1 = ![0, lo c i, 0]) {Q : PUnit → sProp 𝕄} (hk : St m K c b (lord i + 1) w p n r s k ⊢ Q ⟨⟩)
    (hi : i.val < 9 := by decide) (hn : llen i = n' := by rfl) (hw : w ≤ i.val := by decide) (ho2 : off2 = ![ldst i, 0] := by rfl) (hs : sm = locS i := by rfl) :
    St m K c b (lord i) w p n r s k ⊢ wpc c (Prog.lift (.enqueueDma
      (((Memref.whole main_arg0 : Memref sig .tc .hbm S1x4096x2048 .f32).slice (Rect.unit (s := S1x4096x2048) off1 ![1, n', 2048] inb1) hr1).squeeze ⟨2, ![n', 2048]⟩ hq)
      (.here ((Memref.whole cc0_scratch0 : Memref sig .tc .vmem S704x2048 .f32).slice (Rect.unit (s := S704x2048) off2 ![n', 2048] inb2) hr2))
      (.dma sm) h1 h2 h3)) Q :=
  step_enq m i hi hn hw ho1 ho2 hs hk

/-- The next part of the send buffer is sent. -/
theorem go_x {n' : ℕ} {nn : Dev nD} {ss rs : DmaSem sig} {off1 off2 : Fin 2 → ℕ} {inb1 inb2 hr1 hr2 hsc h1 h2 h3}
    (hd : nn.val = (dest (tN n) c).val) (ho2 : off2 = ![soff c (tN n), 0]) {Q : PUnit → sProp 𝕄} (hk : St m K c 4 e w p (n + 1) r 0 k ⊢ Q ⟨⟩)
    (hn : n < 30 := by decide) (hp : n < p := by decide) (hu : srcT (tN n) = none := by rfl) (hl : len (tN n) = n' := by rfl)
    (hss : ss = sndS (tN n) := by rfl) (hrs : rs = rcvS (tN n) := by rfl) (ho1 : off1 = ![64 * n, 0] := by rfl) :
    St m K c 4 e w p n r 0 k ⊢ wpc c (Prog.lift (.enqueueDma
      ((Memref.whole cc0_scratch1 : Memref sig .tc .vmem S704x2048 .bf16).slice (Rect.unit (s := S704x2048) off1 ![n', 2048] inb1) hr1)
      (.remote (Dev.tc nn : Thread nD τ) ((Memref.whole cc0_scratch2 : Memref sig .tc .vmem S2048x2048 .bf16).slice (Rect.unit (s := S2048x2048) off2 ![n', 2048] inb2) hr2) (.dma ss) hsc)
      (.dma rs) h1 h2 h3)) Q :=
  have ho : ord (tN n) = n := ord_tN ⟨n, hn⟩
  step_send_x m (tN n) hu hl ho.symm rfl (by rw [ho]; exact hp) (Fin.ext hd) hss hrs (by rw [ho]; exact ho1) ho2 (by rw [ho]; exact hk)

/-- The piece the next transfer passes on. -/
def uN (n : ℕ) : T := (srcT (tN n)).getD .xa

/-- The next received piece is passed on. -/
theorem go_pass {nn : Dev nD} {ss rs : DmaSem sig} {off : Fin 2 → ℕ} {inb1 inb2 hr1 hr2 hsc h1 h2 h3}
    (hd : nn.val = (dest (tN n) c).val) (ho : off = ![soff c (tN n), 0]) {Q : PUnit → sProp 𝕄} (hk : St m K c 4 e w p (n + 1) r 0 k ⊢ Q ⟨⟩)
    (hn : n < 30 := by decide) (hu : srcT (tN n) = some (uN n) := by rfl) (hr' : rord (uN n) < r := by decide)
    (hss : ss = sndS (tN n) := by rfl) (hrs : rs = rcvS (tN n) := by rfl) :
    St m K c 4 e w p n r 0 k ⊢ wpc c (Prog.lift (.enqueueDma
      ((Memref.whole cc0_scratch2 : Memref sig .tc .vmem S2048x2048 .bf16).slice (Rect.unit (s := S2048x2048) off S64x2048.size inb1) hr1)
      (.remote (Dev.tc nn : Thread nD τ) ((Memref.whole cc0_scratch2 : Memref sig .tc .vmem S2048x2048 .bf16).slice (Rect.unit (s := S2048x2048) off S64x2048.size inb2) hr2) (.dma ss) hsc)
      (.dma rs) h1 h2 h3)) Q :=
  have h : ord (tN n) = n := ord_tN ⟨n, hn⟩
  step_pass m (tN n) (uN n) hu h.symm rfl hr' (Fin.ext hd) hss hrs ho ho (by rw [h]; exact hk)

/-- What is stored in the send buffer: the loaded part of the staging buffer, rounded. -/
theorem snd_pay {n' o : ℕ} (h h') (x : (⟨2, ![n', 2048]⟩ : Shape).Idx) :
    shapeCast ⟨2, ![n', 2048]⟩ (truncf (F := F) .bf16 (fun y : (⟨2, ![n', 2048]⟩ : Shape).Idx => Gc m c (ix2 (R := 704) (o + (y 0).val) (y 1))) h) h' x
      = Sc m c (ix2 (R := 704) (o + (x 0).val) (x 1)) := by
  rw [shapeCast_self]; rfl

/-- The next part of the send buffer is filled: its copy is awaited and loaded, and its rounding stored. -/
theorem go_fill {n' : ℕ} {β : Type} {sp sp' : Space} {sh sh' : Shape} {el el' : EltTy} {sm : DmaSem sig} {src : Memref sig .tc sp' sh' el'} {dst : Memref sig .tc sp sh el}
    {hw1 hw2} {off : Fin 2 → ℕ} {inb} {hl1 hl2} {pay : ((⟨2, ![n', 2048]⟩ : Shape).Idx → Elt F .f32) → (⟨2, ![n', 2048]⟩ : Shape).Idx → Elt F .bf16}
    {hx : _} {hm : _} {rest : PUnit → Prog (TpuEff nD τ sig (Elt F) Λ₀ .tc) β} {Q : β → sProp 𝕄}
    (hpay : ∀ f, ∃ h h', pay f = shapeCast ⟨2, ![n', 2048]⟩ (truncf (F := F) .bf16 f h) h')
    (hk : St m K c 4 10 (p + 1) (p + 1) n 0 0 0 ⊢ wpc c (rest ⟨⟩) Q) (hp : p < 9 := by decide) (hn : n ≤ p := by decide)
    (hu : srcT (tN p) = none := by rfl) (hl : len (tN p) = n' := by rfl) (hL : llen ⟨p, by omega⟩ = n' := by rfl)
    (ho : off = ![64 * p, 0] := by rfl) (hs : sm = locS ⟨p, by omega⟩ := by rfl) (hN : dst.view.dmaCredit = NL ⟨p, by omega⟩ := by rfl) :
    St m K c 4 10 p p n 0 0 0 ⊢ wpc c (Prog.lift (.waitDma2 sm src dst hw1 hw2) >>= fun _ =>
      Prog.lift (.load (Memref.whole cc0_scratch0 : Memref sig .tc .vmem S704x2048 .f32) (Rect.unit (s := S704x2048) off ![n', 2048] inb).toLoadRect hl1) >>= fun v =>
      Prog.lift (.load (Memref.whole cc0_scratch1 : Memref sig .tc .vmem S704x2048 .bf16) (Rect.unit (s := S704x2048) off ![n', 2048] inb).toLoadRect hl2) >>= fun _ =>
      Prog.lift (.store (Memref.whole cc0_scratch1 : Memref sig .tc .vmem S704x2048 .bf16) (Rect.unit (s := S704x2048) off ![n', 2048] inb) (pay v) Finset.univ hx hm) >>= rest) Q := by
  have h : ord (tN p) = p := ord_tN ⟨p, by omega⟩
  refine bind_step (go_loc m ?_ (by omega) (fun h => absurd h (by omega)) hs hN)
  refine bind_step (step_load_stg m ⟨p, by omega⟩ hp hL (Nat.lt_succ_self p) ho ?_)
  refine bind_step (step_load_snd m (tN p) hu hl h.symm (by rw [h]; exact hn) rfl (by rw [h]; exact ho) fun _ => ?_)
  refine bind_step (step_store_snd m (tN p) hu hl h.symm (by rw [h]; exact hn) rfl (by rw [h]; exact ho) (fun x => ?_) (by rw [h]; exact hk))
  obtain ⟨e, e', hp'⟩ := hpay fun y => Gc m c (ix2 (R := 704) (64 * p + (y 0).val) (y 1))
  rw [h]
  exact (congrFun hp' x).trans (snd_pay m e e' x)

end Steps

/-! ## The kernel's operands -/

abbrev a0 : Memref sig .tc .hbm S1x4096x2048 .f32 := Memref.whole main_arg0
abbrev a1 : Memref sig .tc .vmem S2048 .f32 := Memref.whole cc0_stg0_0
abbrev a2 : Memref sig .tc .vmem S2048x2048 .f32 := Memref.whole cc0_stg1_0
abbrev a3 : Memref sig .tc .vmem S704x2048 .f32 := Memref.whole cc0_scratch0
abbrev a4 : Memref sig .tc .vmem S704x2048 .bf16 := Memref.whole cc0_scratch1
abbrev a5 : Memref sig .tc .vmem S2048x2048 .bf16 := Memref.whole cc0_scratch2

/-! ## Where the quarters lie -/

theorem off8_qtr : ∀ c : Dev nD, k0_off8 c = ![512 * qtr c 0, 0] := by decide +kernel
theorem off9_qtr : ∀ c : Dev nD, k0_off9 c = ![512 * qtr c 1, 0] := by decide +kernel
theorem off10_qtr : ∀ c : Dev nD, k0_off10 c = ![512 * qtr c 2, 0] := by decide +kernel
theorem off12_qtr : ∀ c : Dev nD, k0_off12 c = ![512 * qtr c 3, 0] := by decide +kernel

/-! ## The parts of the program -/

section Parts
variable {K : Dev nD × Cl → ℕ} (c : Dev nD) {h0 h1 h2 h3 h4 h5} {v v' v₁ v₂ v₃ v₄ v₅ v₆ v₇ v₈ v₉ : BitVec 32}

/-- The device reads its number and begins the copy of its own rows into the output. -/
theorem part1 {Q : (Σ' (d0 : Dev nD) (v2 : BitVec 32) (v5 : BitVec 32) (v8 : BitVec 32) (v10 : BitVec 32) (v13 : BitVec 32) (v16 : BitVec 32) (v20 : BitVec 32) (v21 : BitVec 32) (v22 : BitVec 32) (v23 : BitVec 32) (v26 : BitVec 32), BitVec 32) → sProp 𝕄} (hk : ∀ x₁ x₂ x₃ x₄ x₅ x₆ x₇ x₈ x₉ x₁₀ x₁₁ x₁₂, St m K c 0 1 0 0 0 0 0 0 ⊢ Q ⟨c, x₁, x₂, x₃, x₄, x₅, x₆, x₇, x₈, x₉, x₁₀, x₁₁, x₁₂⟩) :
    St m K c 0 0 0 0 0 0 0 0 ⊢ wpc c (k0_part1 (F := F) a0 h0 a1 h1 a2 h2 a3 h3 a4 h4 a5 h5 cc0_scratch3 cc0_scratch4 cc0_scratch5 cc0_scratch6 cc0_scratch7 cc0_scratch8 cc0_scratch9 cc0_scratch10) Q := by
  rw [k0_part1_eq_skeleton]; unfold k0_part1_skel; dsimp only
  refine bind_step (step_id ?_)
  refine bind_step (step_enq_own m (by decide) (k0_off1_eq c) rfl ?_)
  exact pure_step (hk _ _ _ _ _ _ _ _ _ _ _ _)

/-- The first two copies into the staging buffer begin. -/
theorem part2 {Q : (PUnit) → sProp 𝕄} (hk : St m K c 0 3 0 0 0 0 0 0 ⊢ Q ⟨⟩) :
    St m K c 0 1 0 0 0 0 0 0 ⊢ wpc c (k0_part2 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂) Q := by
  rw [k0_part2_eq_skeleton]; unfold k0_part2_skel; dsimp only
  refine bind_step (go_enq m 0 (k0_off2_eq c 3) ?_)
  refine bind_step (go_enq m 1 (k0_off2_eq c 4) ?_)
  exact pure_step hk

/-- Five more begin. -/
theorem part3 {Q : (PUnit) → sProp 𝕄} (hk : St m K c 0 8 0 0 0 0 0 0 ⊢ Q ⟨⟩) :
    St m K c 0 3 0 0 0 0 0 0 ⊢ wpc c (k0_part3 (F := F) a0 h0 a1 h1 a2 h2 a3 h3 a4 h4 a5 h5 cc0_scratch3 cc0_scratch4 cc0_scratch5 cc0_scratch6 cc0_scratch7 cc0_scratch8 cc0_scratch9 cc0_scratch10 c) Q := by
  rw [k0_part3_eq_skeleton]; unfold k0_part3_skel; dsimp only
  refine bind_step (go_enq m 2 (k0_off2_eq c 5) ?_)
  refine bind_step (go_enq m 3 (k0_off2_eq c 6) ?_)
  refine bind_step (go_enq m 4 (k0_off2_eq c 7) ?_)
  refine bind_step (go_enq m 5 (k0_off2_eq c 0) ?_)
  refine bind_step (go_enq m 6 (k0_off2_eq c 1) ?_)
  exact pure_step hk

/-- The last two begin, and the device meets its three neighbours at the barrier. -/
theorem part4 {Q : (BitVec 32) → sProp 𝕄} (hk : ∀ x, St m K c 4 10 0 0 0 0 0 0 ⊢ Q x) :
    St m K c 0 8 0 0 0 0 0 0 ⊢ wpc c (k0_part4 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃ v₄ v₅) Q := by
  rw [k0_part4_eq_skeleton]; unfold k0_part4_skel; dsimp only
  refine bind_step (go_enq m 7 (k0_off2_eq c 2) ?_)
  refine bind_step (go_enq m 8 (k0_off3_eq c) ?_)
  refine bind_step (step_signal m (by decide) (Fin.ext (k0_dev1_eq c)) rfl ?_)
  refine bind_step (step_signal m (by decide) (Fin.ext (k0_dev2_eq c)) rfl ?_)
  refine bind_step (step_signal m (by decide) (Fin.ext (k0_dev3_eq c)) rfl ?_)
  refine bind_step (step_barrier m rfl ?_)
  exact pure_step (hk _)

/-- Only numbers are computed. -/
theorem part5 {Q : (BitVec 32) → sProp 𝕄} (hk : ∀ x, St m K c 4 10 0 0 0 0 0 0 ⊢ Q x) :
    St m K c 4 10 0 0 0 0 0 0 ⊢ wpc c (k0_part5 (F := F) a0 h0 a1 h1 a2 h2 a3 h3 a4 h4 a5 h5 cc0_scratch3 cc0_scratch4 cc0_scratch5 cc0_scratch6 cc0_scratch7 cc0_scratch8 cc0_scratch9 cc0_scratch10 v v' v₁) Q := by
  rw [k0_part5_eq_skeleton]; unfold k0_part5_skel
  exact pure_step (hk _)

/-- Only numbers are computed. -/
theorem part6 {Q : (BitVec 32) → sProp 𝕄} (hk : ∀ x, St m K c 4 10 0 0 0 0 0 0 ⊢ Q x) :
    St m K c 4 10 0 0 0 0 0 0 ⊢ wpc c (k0_part6 (F := F) a0 h0 a1 h1 a2 h2 a3 h3 a4 h4 a5 h5 cc0_scratch3 cc0_scratch4 cc0_scratch5 cc0_scratch6 cc0_scratch7 cc0_scratch8 cc0_scratch9 cc0_scratch10 v v') Q := by
  rw [k0_part6_eq_skeleton]; unfold k0_part6_skel
  exact pure_step (hk _)

/-- Only numbers are computed. -/
theorem part7 {Q : (BitVec 32) → sProp 𝕄} (hk : ∀ x, St m K c 4 10 0 0 0 0 0 0 ⊢ Q x) :
    St m K c 4 10 0 0 0 0 0 0 ⊢ wpc c (k0_part7 (F := F) a0 h0 a1 h1 a2 h2 a3 h3 a4 h4 a5 h5 cc0_scratch3 cc0_scratch4 cc0_scratch5 cc0_scratch6 cc0_scratch7 cc0_scratch8 cc0_scratch9 cc0_scratch10 v v' v₁) Q := by
  rw [k0_part7_eq_skeleton]; unfold k0_part7_skel
  exact pure_step (hk _)

/-- Only numbers are computed. -/
theorem part8 {Q : (BitVec 32) → sProp 𝕄} (hk : ∀ x, St m K c 4 10 0 0 0 0 0 0 ⊢ Q x) :
    St m K c 4 10 0 0 0 0 0 0 ⊢ wpc c (k0_part8 (F := F) a0 h0 a1 h1 a2 h2 a3 h3 a4 h4 a5 h5 cc0_scratch3 cc0_scratch4 cc0_scratch5 cc0_scratch6 cc0_scratch7 cc0_scratch8 cc0_scratch9 cc0_scratch10 v v' v₁ v₂) Q := by
  rw [k0_part8_eq_skeleton]; unfold k0_part8_skel
  exact pure_step (hk _)

/-- Only numbers are computed. -/
theorem part9 {Q : (BitVec 32) → sProp 𝕄} (hk : ∀ x, St m K c 4 10 0 0 0 0 0 0 ⊢ Q x) :
    St m K c 4 10 0 0 0 0 0 0 ⊢ wpc c (k0_part9 (F := F) a0 h0 a1 h1 a2 h2 a3 h3 a4 h4 a5 h5 cc0_scratch3 cc0_scratch4 cc0_scratch5 cc0_scratch6 cc0_scratch7 cc0_scratch8 cc0_scratch9 cc0_scratch10 v v' v₁ v₂) Q := by
  rw [k0_part9_eq_skeleton]; unfold k0_part9_skel
  exact pure_step (hk _)

/-- Only numbers are computed. -/
theorem part10 {Q : (BitVec 32) → sProp 𝕄} (hk : ∀ x, St m K c 4 10 0 0 0 0 0 0 ⊢ Q x) :
    St m K c 4 10 0 0 0 0 0 0 ⊢ wpc c (k0_part10 (F := F) a0 h0 a1 h1 a2 h2 a3 h3 a4 h4 a5 h5 cc0_scratch3 cc0_scratch4 cc0_scratch5 cc0_scratch6 cc0_scratch7 cc0_scratch8 cc0_scratch9 cc0_scratch10 v v' v₁ v₂) Q := by
  rw [k0_part10_eq_skeleton]; unfold k0_part10_skel
  exact pure_step (hk _)

/-- The first part of the send buffer is filled and sent. -/
theorem part11 {Q : (PUnit) → sProp 𝕄} (hk : St m K c 4 10 1 1 1 0 0 0 ⊢ Q ⟨⟩) :
    St m K c 4 10 0 0 0 0 0 0 ⊢ wpc c (k0_part11 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃ v₄) Q := by
  rw [k0_part11_eq_skeleton]; unfold k0_part11_skel; dsimp only
  refine go_fill m (fun _ => ⟨_, _, rfl⟩) ?_
  refine bind_step (go_x m (k0_dev4_eq c) (k0_off4_eq c 3) ?_)
  exact pure_step hk

/-- The second is filled and sent, the third filled. -/
theorem part12 {Q : (PUnit) → sProp 𝕄} (hk : St m K c 4 10 3 3 2 0 0 0 ⊢ Q ⟨⟩) :
    St m K c 4 10 1 1 1 0 0 0 ⊢ wpc c (k0_part12 (F := F) a0 h0 a1 h1 a2 h2 a3 h3 a4 h4 a5 h5 cc0_scratch3 cc0_scratch4 cc0_scratch5 cc0_scratch6 cc0_scratch7 cc0_scratch8 cc0_scratch9 cc0_scratch10 c v v' v₁) Q := by
  rw [k0_part12_eq_skeleton]; unfold k0_part12_skel; dsimp only
  refine go_fill m (fun _ => ⟨_, _, rfl⟩) ?_
  refine bind_step (go_x m (k0_dev5_eq c) (k0_off4_eq c 4) ?_)
  refine go_fill m (fun _ => ⟨_, _, rfl⟩) ?_
  exact pure_step hk

/-- The third is sent, the fourth filled. -/
theorem part13 {Q : (PUnit) → sProp 𝕄} (hk : St m K c 4 10 4 4 3 0 0 0 ⊢ Q ⟨⟩) :
    St m K c 4 10 3 3 2 0 0 0 ⊢ wpc c (k0_part13 (F := F) a0 h0 a1 h1 a2 h2 a3 h3 a4 h4 a5 h5 cc0_scratch3 cc0_scratch4 cc0_scratch5 cc0_scratch6 cc0_scratch7 cc0_scratch8 cc0_scratch9 cc0_scratch10 c v v' v₁) Q := by
  rw [k0_part13_eq_skeleton]; unfold k0_part13_skel; dsimp only
  refine bind_step (go_x m (k0_dev6_eq c) (k0_off4_eq c 5) ?_)
  refine go_fill m (fun _ => ⟨_, _, rfl⟩) ?_
  exact pure_step hk

/-- The fourth is sent, the fifth filled and sent. -/
theorem part14 {Q : (PUnit) → sProp 𝕄} (hk : St m K c 4 10 5 5 5 0 0 0 ⊢ Q ⟨⟩) :
    St m K c 4 10 4 4 3 0 0 0 ⊢ wpc c (k0_part14 (F := F) a0 h0 a1 h1 a2 h2 a3 h3 a4 h4 a5 h5 cc0_scratch3 cc0_scratch4 cc0_scratch5 cc0_scratch6 cc0_scratch7 cc0_scratch8 cc0_scratch9 cc0_scratch10 c v v' v₁) Q := by
  rw [k0_part14_eq_skeleton]; unfold k0_part14_skel; dsimp only
  refine bind_step (go_x m (k0_dev7_eq c) (k0_off4_eq c 6) ?_)
  refine go_fill m (fun _ => ⟨_, _, rfl⟩) ?_
  refine bind_step (go_x m (k0_dev8_eq c) (k0_off4_eq c 7) ?_)
  exact pure_step hk

/-- The sixth is filled and sent, the seventh filled. -/
theorem part15 {Q : (PUnit) → sProp 𝕄} (hk : St m K c 4 10 7 7 6 0 0 0 ⊢ Q ⟨⟩) :
    St m K c 4 10 5 5 5 0 0 0 ⊢ wpc c (k0_part15 (F := F) a0 h0 a1 h1 a2 h2 a3 h3 a4 h4 a5 h5 cc0_scratch3 cc0_scratch4 cc0_scratch5 cc0_scratch6 cc0_scratch7 cc0_scratch8 cc0_scratch9 cc0_scratch10 c v v' v₁) Q := by
  rw [k0_part15_eq_skeleton]; unfold k0_part15_skel; dsimp only
  refine go_fill m (fun _ => ⟨_, _, rfl⟩) ?_
  refine bind_step (go_x m (k0_dev9_eq c) (k0_off4_eq c 0) ?_)
  refine go_fill m (fun _ => ⟨_, _, rfl⟩) ?_
  exact pure_step hk

/-- The seventh is sent, the eighth filled. -/
theorem part16 {Q : (PUnit) → sProp 𝕄} (hk : St m K c 4 10 8 8 7 0 0 0 ⊢ Q ⟨⟩) :
    St m K c 4 10 7 7 6 0 0 0 ⊢ wpc c (k0_part16 (F := F) a0 h0 a1 h1 a2 h2 a3 h3 a4 h4 a5 h5 cc0_scratch3 cc0_scratch4 cc0_scratch5 cc0_scratch6 cc0_scratch7 cc0_scratch8 cc0_scratch9 cc0_scratch10 c v v' v₁) Q := by
  rw [k0_part16_eq_skeleton]; unfold k0_part16_skel; dsimp only
  refine bind_step (go_x m (k0_dev10_eq c) (k0_off4_eq c 1) ?_)
  refine go_fill m (fun _ => ⟨_, _, rfl⟩) ?_
  exact pure_step hk

/-- The eighth is sent, the long one filled and sent. -/
theorem part17 {Q : (Σ' (v504 : BitVec 32), BitVec 32) → sProp 𝕄} (hk : ∀ x, St m K c 4 10 9 9 9 0 0 0 ⊢ Q x) :
    St m K c 4 10 8 8 7 0 0 0 ⊢ wpc c (k0_part17 (F := F) a0 h0 a1 h1 a2 h2 a3 h3 a4 h4 a5 h5 cc0_scratch3 cc0_scratch4 cc0_scratch5 cc0_scratch6 cc0_scratch7 cc0_scratch8 cc0_scratch9 cc0_scratch10 c v v' v₁) Q := by
  rw [k0_part17_eq_skeleton]; unfold k0_part17_skel; dsimp only
  refine bind_step (go_x m (k0_dev11_eq c) (k0_off4_eq c 2) ?_)
  refine go_fill m (fun _ => ⟨_, _, rfl⟩) ?_
  refine bind_step (go_x m (k0_dev12_eq c) (k0_off5_eq c) ?_)
  exact pure_step (hk _)

/-- The first piece has arrived and is passed on. -/
theorem part18 {Q : (PUnit) → sProp 𝕄} (hk : St m K c 4 10 9 9 11 1 0 0 ⊢ Q ⟨⟩) :
    St m K c 4 10 9 9 9 0 0 0 ⊢ wpc c (k0_part18 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃ v₄ v₅) Q := by
  rw [k0_part18_eq_skeleton]; unfold k0_part18_skel; dsimp only
  refine bind_step (go_rcv m ?_)
  refine bind_step (go_pass m (k0_dev13_eq c) (k0_off4_eq c 3) ?_)
  refine bind_step (go_pass m (k0_dev14_eq c) (k0_off4_eq c 3) ?_)
  exact pure_step hk

/-- The second has arrived and is passed on across `z`. -/
theorem part19 {Q : (PUnit) → sProp 𝕄} (hk : St m K c 4 10 9 9 12 2 0 0 ⊢ Q ⟨⟩) :
    St m K c 4 10 9 9 11 1 0 0 ⊢ wpc c (k0_part19 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃ v₄) Q := by
  rw [k0_part19_eq_skeleton]; unfold k0_part19_skel; dsimp only
  refine bind_step (go_rcv m ?_)
  refine bind_step (go_pass m (k0_dev15_eq c) (k0_off4_eq c 4) ?_)
  exact pure_step hk

/-- It is passed on across `y`; the third has arrived and is passed on across `z`. -/
theorem part20 {Q : (Σ' (v594 : BitVec 32), BitVec 32) → sProp 𝕄} (hk : ∀ x, St m K c 4 10 9 9 14 3 0 0 ⊢ Q x) :
    St m K c 4 10 9 9 12 2 0 0 ⊢ wpc c (k0_part20 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃) Q := by
  rw [k0_part20_eq_skeleton]; unfold k0_part20_skel; dsimp only
  refine bind_step (go_pass m (k0_dev16_eq c) (k0_off4_eq c 4) ?_)
  refine bind_step (go_rcv m ?_)
  refine bind_step (go_pass m (k0_dev17_eq c) (k0_off4_eq c 5) ?_)
  exact pure_step (hk _)

/-- It is passed on across `y`; the fourth has arrived and is passed on across `z`. -/
theorem part21 {Q : (PUnit) → sProp 𝕄} (hk : St m K c 4 10 9 9 16 4 0 0 ⊢ Q ⟨⟩) :
    St m K c 4 10 9 9 14 3 0 0 ⊢ wpc c (k0_part21 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃ v₄ v₅ v₆) Q := by
  rw [k0_part21_eq_skeleton]; unfold k0_part21_skel; dsimp only
  refine bind_step (go_pass m (k0_dev18_eq c) (k0_off4_eq c 5) ?_)
  refine bind_step (go_rcv m ?_)
  refine bind_step (go_pass m (k0_dev19_eq c) (k0_off4_eq c 6) ?_)
  exact pure_step hk

/-- It is passed on across `y`; a piece has arrived across `z`. -/
theorem part22 {Q : (PUnit) → sProp 𝕄} (hk : St m K c 4 10 9 9 17 5 0 0 ⊢ Q ⟨⟩) :
    St m K c 4 10 9 9 16 4 0 0 ⊢ wpc c (k0_part22 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃) Q := by
  rw [k0_part22_eq_skeleton]; unfold k0_part22_skel; dsimp only
  refine bind_step (go_pass m (k0_dev20_eq c) (k0_off4_eq c 6) ?_)
  refine bind_step (go_rcv m ?_)
  exact pure_step hk

/-- That piece is passed on across `y`; the fifth has arrived and is passed on across `z`. -/
theorem part23 {Q : (Σ' (v684 : BitVec 32), BitVec 32) → sProp 𝕄} (hk : ∀ x, St m K c 4 10 9 9 19 6 0 0 ⊢ Q x) :
    St m K c 4 10 9 9 17 5 0 0 ⊢ wpc c (k0_part23 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃) Q := by
  rw [k0_part23_eq_skeleton]; unfold k0_part23_skel; dsimp only
  refine bind_step (go_pass m (k0_dev21_eq c) (k0_off6_eq c 3) ?_)
  refine bind_step (go_rcv m ?_)
  refine bind_step (go_pass m (k0_dev22_eq c) (k0_off4_eq c 7) ?_)
  exact pure_step (hk _)

/-- It is passed on across `y`; a second piece has arrived across `z` and is passed on. -/
theorem part24 {Q : (PUnit) → sProp 𝕄} (hk : St m K c 4 10 9 9 21 7 0 0 ⊢ Q ⟨⟩) :
    St m K c 4 10 9 9 19 6 0 0 ⊢ wpc c (k0_part24 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃ v₄ v₅) Q := by
  rw [k0_part24_eq_skeleton]; unfold k0_part24_skel; dsimp only
  refine bind_step (go_pass m (k0_dev23_eq c) (k0_off4_eq c 7) ?_)
  refine bind_step (go_rcv m ?_)
  refine bind_step (go_pass m (k0_dev24_eq c) (k0_off6_eq c 4) ?_)
  exact pure_step hk

/-- The sixth has arrived and is passed on across `z`. -/
theorem part25 {Q : (PUnit) → sProp 𝕄} (hk : St m K c 4 10 9 9 22 8 0 0 ⊢ Q ⟨⟩) :
    St m K c 4 10 9 9 21 7 0 0 ⊢ wpc c (k0_part25 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃ v₄) Q := by
  rw [k0_part25_eq_skeleton]; unfold k0_part25_skel; dsimp only
  refine bind_step (go_rcv m ?_)
  refine bind_step (go_pass m (k0_dev25_eq c) (k0_off4_eq c 0) ?_)
  exact pure_step hk

/-- It is passed on across `y`; a third piece has arrived across `z` and is passed on. -/
theorem part26 {Q : (Σ' (v774 : BitVec 32), BitVec 32) → sProp 𝕄} (hk : ∀ x, St m K c 4 10 9 9 24 9 0 0 ⊢ Q x) :
    St m K c 4 10 9 9 22 8 0 0 ⊢ wpc c (k0_part26 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃ v₄) Q := by
  rw [k0_part26_eq_skeleton]; unfold k0_part26_skel; dsimp only
  refine bind_step (go_pass m (k0_dev26_eq c) (k0_off4_eq c 0) ?_)
  refine bind_step (go_rcv m ?_)
  refine bind_step (go_pass m (k0_dev27_eq c) (k0_off6_eq c 5) ?_)
  exact pure_step (hk _)

/-- The seventh has arrived and is passed on. -/
theorem part27 {Q : (PUnit) → sProp 𝕄} (hk : St m K c 4 10 9 9 26 10 0 0 ⊢ Q ⟨⟩) :
    St m K c 4 10 9 9 24 9 0 0 ⊢ wpc c (k0_part27 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃ v₄ v₅) Q := by
  rw [k0_part27_eq_skeleton]; unfold k0_part27_skel; dsimp only
  refine bind_step (go_rcv m ?_)
  refine bind_step (go_pass m (k0_dev28_eq c) (k0_off4_eq c 1) ?_)
  refine bind_step (go_pass m (k0_dev29_eq c) (k0_off4_eq c 1) ?_)
  exact pure_step hk

/-- A piece has arrived across `y` and is passed on across `z`. -/
theorem part28 {Q : (PUnit) → sProp 𝕄} (hk : St m K c 4 10 9 9 27 11 0 0 ⊢ Q ⟨⟩) :
    St m K c 4 10 9 9 26 10 0 0 ⊢ wpc c (k0_part28 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃ v₄) Q := by
  rw [k0_part28_eq_skeleton]; unfold k0_part28_skel; dsimp only
  refine bind_step (go_rcv m ?_)
  refine bind_step (go_pass m (k0_dev30_eq c) (k0_off7_eq c 6) ?_)
  exact pure_step hk

/-- The eighth has arrived and is passed on. -/
theorem part29 {Q : (Σ' (v864 : BitVec 32), BitVec 32) → sProp 𝕄} (hk : ∀ x, St m K c 4 10 9 9 29 12 0 0 ⊢ Q x) :
    St m K c 4 10 9 9 27 11 0 0 ⊢ wpc c (k0_part29 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃) Q := by
  rw [k0_part29_eq_skeleton]; unfold k0_part29_skel; dsimp only
  refine bind_step (go_rcv m ?_)
  refine bind_step (go_pass m (k0_dev31_eq c) (k0_off4_eq c 2) ?_)
  refine bind_step (go_pass m (k0_dev32_eq c) (k0_off4_eq c 2) ?_)
  exact pure_step (hk _)

/-- A second piece has arrived across `y` and is passed on; the device has its own rows, and loads the first quarter. -/
theorem part30 {Q : (Σ' (v888 : FVec F S2048 .f32) (v889 : BitVec 32) (v896 : FVec F S512x2048 .f32), FVec F S512x1 .f32) → sProp 𝕄} (hk : ∀ x, St m K c 4 10 10 9 30 13 0 0 ⊢ Q ⟨k0_pay10 (gam m c), x, k0_pay11 (qrt (512 * qtr c 0) (Oc m c)) (qrt (512 * qtr c 0) (Rc m c)), k0_pay12 (qrt (512 * qtr c 0) (Oc m c)) (qrt (512 * qtr c 0) (Rc m c))⟩) :
    St m K c 4 10 9 9 29 12 0 0 ⊢ wpc c (k0_part30 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃ v₄ v₅) Q := by
  rw [k0_part30_eq_skeleton]; unfold k0_part30_skel; dsimp only
  refine bind_step (go_rcv m ?_)
  refine bind_step (go_pass m (k0_dev33_eq c) (k0_off7_eq c 7) ?_)
  refine bind_step (go_loc m ?_)
  refine bind_step (step_load_gam m ?_)
  refine bind_step (step_load_out m (by decide) (by decide) (off8_qtr c) ?_)
  refine bind_step (step_load_rcv m (by decide) (by decide) (off8_qtr c) ?_)
  exact pure_step (hk _)

/-- The first quarter is normalised; two more pieces have arrived. -/
theorem part31 {Q : (BitVec 32) → sProp 𝕄} (hk : ∀ x, St m K c 4 10 10 9 30 15 0 1 ⊢ Q x) :
    St m K c 4 10 10 9 30 13 0 0 ⊢ wpc c (k0_part31 (F := F) a0 h0 a1 h1 a2 h2 a3 h3 a4 h4 a5 h5 cc0_scratch3 cc0_scratch4 cc0_scratch5 cc0_scratch6 cc0_scratch7 cc0_scratch8 cc0_scratch9 cc0_scratch10 c v v' v₁ (k0_pay10 (gam m c)) v₂ (k0_pay11 (qrt (512 * qtr c 0) (Oc m c)) (qrt (512 * qtr c 0) (Rc m c))) (k0_pay12 (qrt (512 * qtr c 0) (Oc m c)) (qrt (512 * qtr c 0) (Rc m c)))) Q := by
  rw [k0_part31_eq_skeleton]; unfold k0_part31_skel; dsimp only
  refine bind_step (step_load_out m (by decide) (by decide) (off8_qtr c) ?_)
  refine bind_step (step_store_out m (by decide) (by decide) (off8_qtr c) rfl ?_)
  refine bind_step (go_rcv m ?_)
  refine bind_step (go_rcv m ?_)
  exact pure_step (hk _)

/-- Three more have arrived. -/
theorem part32 {Q : (BitVec 32) → sProp 𝕄} (hk : ∀ x, St m K c 4 10 10 9 30 18 0 1 ⊢ Q x) :
    St m K c 4 10 10 9 30 15 0 1 ⊢ wpc c (k0_part32 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃) Q := by
  rw [k0_part32_eq_skeleton]; unfold k0_part32_skel; dsimp only
  refine bind_step (go_rcv m ?_)
  refine bind_step (go_rcv m ?_)
  refine bind_step (go_rcv m ?_)
  exact pure_step (hk _)

/-- The second quarter is normalised; one more piece has arrived. -/
theorem part33 {Q : (Σ' (v996 : BitVec 32), BitVec 32) → sProp 𝕄} (hk : ∀ x, St m K c 4 10 10 9 30 19 0 2 ⊢ Q x) :
    St m K c 4 10 10 9 30 18 0 1 ⊢ wpc c (k0_part33 (F := F) a0 h0 a1 h1 a2 h2 a3 h3 a4 h4 a5 h5 cc0_scratch3 cc0_scratch4 cc0_scratch5 cc0_scratch6 cc0_scratch7 cc0_scratch8 cc0_scratch9 cc0_scratch10 c v v' v₁ (k0_pay10 (gam m c)) v₂) Q := by
  rw [k0_part33_eq_skeleton]; unfold k0_part33_skel; dsimp only
  refine bind_step (step_load_out m (by decide) (by decide) (off9_qtr c) ?_)
  refine bind_step (step_load_rcv m (by decide) (by decide) (off9_qtr c) ?_)
  refine bind_step (step_load_out m (by decide) (by decide) (off9_qtr c) ?_)
  refine bind_step (step_store_out m (by decide) (by decide) (off9_qtr c) rfl ?_)
  refine bind_step (go_rcv m ?_)
  exact pure_step (hk _)

/-- Three more have arrived. -/
theorem part34 {Q : (Σ' (v1025 : BitVec 32), BitVec 32) → sProp 𝕄} (hk : ∀ x, St m K c 4 10 10 9 30 22 0 2 ⊢ Q x) :
    St m K c 4 10 10 9 30 19 0 2 ⊢ wpc c (k0_part34 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃) Q := by
  rw [k0_part34_eq_skeleton]; unfold k0_part34_skel; dsimp only
  refine bind_step (go_rcv m ?_)
  refine bind_step (go_rcv m ?_)
  refine bind_step (go_rcv m ?_)
  exact pure_step (hk _)

/-- Two more have arrived, and the third quarter is loaded. -/
theorem part35 {Q : (Σ' (v1045 : BitVec 32) (v1062 : FVec F S512x2048 .f32), FVec F S1x2048 .f32) → sProp 𝕄} (hk : ∀ x, St m K c 4 10 10 9 30 24 0 2 ⊢ Q ⟨x, k0_pay15 (qrt (512 * qtr c 2) (Oc m c)) (qrt (512 * qtr c 2) (Rc m c)), k0_pay16 (k0_pay10 (gam m c))⟩) :
    St m K c 4 10 10 9 30 22 0 2 ⊢ wpc c (k0_part35 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ (k0_pay10 (gam m c)) v₃ v₄) Q := by
  rw [k0_part35_eq_skeleton]; unfold k0_part35_skel; dsimp only
  refine bind_step (go_rcv m ?_)
  refine bind_step (go_rcv m ?_)
  refine bind_step (step_load_out m (by decide) (by decide) (off10_qtr c) ?_)
  refine bind_step (step_load_rcv m (by decide) (by decide) (off10_qtr c) ?_)
  exact pure_step (hk _)

/-- The third quarter is normalised; the long piece and one more have arrived. -/
theorem part36 {Q : (Σ' (v1091 : BitVec 32), BitVec 32) → sProp 𝕄} (hk : ∀ x, St m K c 4 10 10 9 30 26 0 3 ⊢ Q x) :
    St m K c 4 10 10 9 30 24 0 2 ⊢ wpc c (k0_part36 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃ v₄ (k0_pay15 (qrt (512 * qtr c 2) (Oc m c)) (qrt (512 * qtr c 2) (Rc m c))) (k0_pay16 (k0_pay10 (gam m c)))) Q := by
  rw [k0_part36_eq_skeleton]; unfold k0_part36_skel; dsimp only
  refine bind_step (step_load_out m (by decide) (by decide) (off10_qtr c) ?_)
  refine bind_step (step_store_out m (by decide) (by decide) (off10_qtr c) rfl ?_)
  refine bind_step (go_rcv m ?_)
  refine bind_step (go_rcv m ?_)
  exact pure_step (hk _)

/-- Three more have arrived. -/
theorem part37 {Q : (Σ' (v1119 : BitVec 32), BitVec 32) → sProp 𝕄} (hk : ∀ x, St m K c 4 10 10 9 30 29 0 3 ⊢ Q x) :
    St m K c 4 10 10 9 30 26 0 3 ⊢ wpc c (k0_part37 (F := F) a0 h0 a1 h1 a2 h2 a3 h3 a4 h4 a5 h5 cc0_scratch3 cc0_scratch4 cc0_scratch5 cc0_scratch6 cc0_scratch7 cc0_scratch8 cc0_scratch9 cc0_scratch10 c v v' v₁ v₂ v₃ v₄ v₅) Q := by
  rw [k0_part37_eq_skeleton]; unfold k0_part37_skel; dsimp only
  refine bind_step (go_rcv m ?_)
  refine bind_step (go_rcv m ?_)
  refine bind_step (go_rcv m ?_)
  exact pure_step (hk _)

/-- The last piece has arrived, the last quarter is normalised, and the first transfer has left. -/
theorem part38 {Q : (PUnit) → sProp 𝕄} (hk : St m K c 4 10 10 9 30 30 1 4 ⊢ Q ⟨⟩) :
    St m K c 4 10 10 9 30 29 0 3 ⊢ wpc c (k0_part38 (F := F) a0 h0 a1 h1 a2 h2 a3 h3 a4 h4 a5 h5 cc0_scratch3 cc0_scratch4 cc0_scratch5 cc0_scratch6 cc0_scratch7 cc0_scratch8 cc0_scratch9 cc0_scratch10 c v v' (k0_pay10 (gam m c)) v₁ v₂) Q := by
  rw [k0_part38_eq_skeleton]; unfold k0_part38_skel; dsimp only
  refine bind_step (go_rcv m ?_)
  refine bind_step (step_load_out m (by decide) (by decide) (off12_qtr c) ?_)
  refine bind_step (step_load_rcv m (by decide) (by decide) (off12_qtr c) ?_)
  refine bind_step (step_load_out m (by decide) (by decide) (off12_qtr c) ?_)
  refine bind_step (step_store_out m (by decide) (by decide) (off12_qtr c) rfl ?_)
  refine bind_step (go_snd m ?_)
  exact pure_step hk

/-- Transfers have left. -/
theorem part39 {Q : (PUnit) → sProp 𝕄} (hk : St m K c 4 10 10 9 30 30 6 4 ⊢ Q ⟨⟩) :
    St m K c 4 10 10 9 30 30 1 4 ⊢ wpc c (k0_part39 (F := F) a0 h0 a1 h1 a2 h2 a3 h3 a4 h4 a5 h5 cc0_scratch3 cc0_scratch4 cc0_scratch5 cc0_scratch6 cc0_scratch7 cc0_scratch8 cc0_scratch9 cc0_scratch10 c) Q := by
  rw [k0_part39_eq_skeleton]; unfold k0_part39_skel; dsimp only
  repeat refine bind_step (go_snd m ?_)
  exact pure_step hk

/-- Transfers have left. -/
theorem part40 {Q : (PUnit) → sProp 𝕄} (hk : St m K c 4 10 10 9 30 30 10 4 ⊢ Q ⟨⟩) :
    St m K c 4 10 10 9 30 30 6 4 ⊢ wpc c (k0_part40 (F := F) a0 h0 a1 h1 a2 h2 a3 h3 a4 h4 a5 h5 cc0_scratch3 cc0_scratch4 cc0_scratch5 cc0_scratch6 cc0_scratch7 cc0_scratch8 cc0_scratch9 cc0_scratch10 c) Q := by
  rw [k0_part40_eq_skeleton]; unfold k0_part40_skel; dsimp only
  repeat refine bind_step (go_snd m ?_)
  exact pure_step hk

/-- Transfers have left. -/
theorem part41 {Q : (PUnit) → sProp 𝕄} (hk : St m K c 4 10 10 9 30 30 15 4 ⊢ Q ⟨⟩) :
    St m K c 4 10 10 9 30 30 10 4 ⊢ wpc c (k0_part41 (F := F) a0 h0 a1 h1 a2 h2 a3 h3 a4 h4 a5 h5 cc0_scratch3 cc0_scratch4 cc0_scratch5 cc0_scratch6 cc0_scratch7 cc0_scratch8 cc0_scratch9 cc0_scratch10 c) Q := by
  rw [k0_part41_eq_skeleton]; unfold k0_part41_skel; dsimp only
  repeat refine bind_step (go_snd m ?_)
  exact pure_step hk

/-- Transfers have left. -/
theorem part42 {Q : (PUnit) → sProp 𝕄} (hk : St m K c 4 10 10 9 30 30 20 4 ⊢ Q ⟨⟩) :
    St m K c 4 10 10 9 30 30 15 4 ⊢ wpc c (k0_part42 (F := F) a0 h0 a1 h1 a2 h2 a3 h3 a4 h4 a5 h5 cc0_scratch3 cc0_scratch4 cc0_scratch5 cc0_scratch6 cc0_scratch7 cc0_scratch8 cc0_scratch9 cc0_scratch10 c) Q := by
  rw [k0_part42_eq_skeleton]; unfold k0_part42_skel; dsimp only
  repeat refine bind_step (go_snd m ?_)
  exact pure_step hk

/-- Transfers have left. -/
theorem part43 {Q : (PUnit) → sProp 𝕄} (hk : St m K c 4 10 10 9 30 30 25 4 ⊢ Q ⟨⟩) :
    St m K c 4 10 10 9 30 30 20 4 ⊢ wpc c (k0_part43 (F := F) a0 h0 a1 h1 a2 h2 a3 h3 a4 h4 a5 h5 cc0_scratch3 cc0_scratch4 cc0_scratch5 cc0_scratch6 cc0_scratch7 cc0_scratch8 cc0_scratch9 cc0_scratch10 c) Q := by
  rw [k0_part43_eq_skeleton]; unfold k0_part43_skel; dsimp only
  repeat refine bind_step (go_snd m ?_)
  exact pure_step hk

/-- All but the last three waits, one part after another. -/
theorem part44 {Q : Dev nD → sProp 𝕄} (hk : St m K c 4 10 10 9 30 30 27 4 ⊢ Q c) :
    St m K c 0 0 0 0 0 0 0 0 ⊢ wpc c (k0_part44 (F := F) a0 h0 a1 h1 a2 h2 a3 h3 a4 h4 a5 h5 cc0_scratch3 cc0_scratch4 cc0_scratch5 cc0_scratch6 cc0_scratch7 cc0_scratch8 cc0_scratch9 cc0_scratch10) Q := by
  rw [k0_part44_eq_skeleton]; unfold k0_part44_skel; dsimp only
  refine bind_step (part1 m c fun _ _ _ _ _ _ _ _ _ _ _ _ => ?_)
  refine bind_step (part2 m c ?_)
  refine bind_step (part3 m c ?_)
  refine bind_step (part4 m c fun _ => ?_)
  refine bind_step (part5 m c fun _ => ?_)
  refine bind_step (part6 m c fun _ => ?_)
  refine bind_step (part7 m c fun _ => ?_)
  refine bind_step (part8 m c fun _ => ?_)
  refine bind_step (part9 m c fun _ => ?_)
  refine bind_step (part10 m c fun _ => ?_)
  refine bind_step (part11 m c ?_)
  refine bind_step (part12 m c ?_)
  refine bind_step (part13 m c ?_)
  refine bind_step (part14 m c ?_)
  refine bind_step (part15 m c ?_)
  refine bind_step (part16 m c ?_)
  refine bind_step (part17 m c fun _ => ?_)
  refine bind_step (part18 m c ?_)
  refine bind_step (part19 m c ?_)
  refine bind_step (part20 m c fun _ => ?_)
  refine bind_step (part21 m c ?_)
  refine bind_step (part22 m c ?_)
  refine bind_step (part23 m c fun _ => ?_)
  refine bind_step (part24 m c ?_)
  refine bind_step (part25 m c ?_)
  refine bind_step (part26 m c fun _ => ?_)
  refine bind_step (part27 m c ?_)
  refine bind_step (part28 m c ?_)
  refine bind_step (part29 m c fun _ => ?_)
  refine bind_step (part30 m c fun _ => ?_)
  refine bind_step (part31 m c fun _ => ?_)
  refine bind_step (part32 m c fun _ => ?_)
  refine bind_step (part33 m c fun _ => ?_)
  refine bind_step (part34 m c fun _ => ?_)
  refine bind_step (part35 m c fun _ => ?_)
  refine bind_step (part36 m c fun _ => ?_)
  refine bind_step (part37 m c fun _ => ?_)
  refine bind_step (part38 m c ?_)
  refine bind_step (part39 m c ?_)
  refine bind_step (part40 m c ?_)
  refine bind_step (part41 m c ?_)
  refine bind_step (part42 m c ?_)
  refine bind_step (part43 m c ?_)
  refine bind_step (go_snd m ?_)
  refine bind_step (go_snd m ?_)
  exact pure_step hk

/-- The body runs from the state before the first signal to the state after the last wait. -/
theorem body_run {Q : PUnit → sProp 𝕄} (hk : St m K c 4 10 10 9 30 30 30 4 ⊢ Q ⟨⟩) :
    St m K c 0 0 0 0 0 0 0 0 ⊢ wpc c (cc0_body (F := F) a0 h0 a1 h1 a2 h2 a3 h3 a4 h4 a5 h5 cc0_scratch3 cc0_scratch4 cc0_scratch5 cc0_scratch6 cc0_scratch7 cc0_scratch8 cc0_scratch9 cc0_scratch10) Q := by
  rw [cc0_body_eq_skeleton]; unfold cc0_body_skel; dsimp only
  refine bind_step (part44 m c ?_)
  repeat refine bind_step (go_snd m ?_)
  exact pure_step hk

end Parts

end Cert.KernelIdealProof
-- ==== Proof.KernelIdealEnds.lean ====
module

public import proofs.«01_k».proof.Proof.KernelIdealMoves

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Dividing the buffers -/

theorem rows_cover {ι : Type} [DecidableEq ι] {s : Shape} (S : Finset ι) (a : Fin s.rank) (o n : ι → ℕ)
    (h : ∀ i : s.Idx, ∃ t ∈ S, o t ≤ (i a).val ∧ (i a).val < o t + n t) : (S.biUnion fun t => rows a (o t) (n t)) = Finset.univ :=
  Finset.eq_univ_iff_forall.mpr fun i => by
    obtain ⟨t, ht, h1, h2⟩ := h i
    exact Finset.mem_biUnion.mpr ⟨t, ht, mem_rows.mpr ⟨h1, h2⟩⟩

theorem ldst_disj : ∀ i j : Fin 10, i ≠ 9 → j ≠ 9 → i ≠ j → ldst i + llen i ≤ ldst j ∨ ldst j + llen j ≤ ldst i := by decide +kernel

omit [FloatOps F] in
/-- The staging buffer, divided into what the copies fill. -/
theorem stg_div (c : Dev nD) (f : S704x2048.Idx → Elt F .f32) :
    (((c : Thread nD τ).loc cc0_scratch0) ↦[Finset.univ]{fullShare} f : sProp 𝕄)
      = bigSep (Finset.univ.erase (9 : Fin 10)) fun i => stgPts c (ldst i) (llen i) f := by
  have hu : ((Finset.univ.erase (9 : Fin 10)).biUnion fun i => rows (s := S704x2048) 0 (ldst i) (llen i)) = Finset.univ := by
    refine rows_cover (s := S704x2048) _ 0 ldst llen fun i => ?_
    have hi : (i 0).val < 704 := (i 0).isLt
    by_cases h : (i 0).val < 512
    · refine ⟨⟨(i 0).val / 64, by omega⟩, Finset.mem_erase.mpr ⟨fun h' => ?_, Finset.mem_univ _⟩, ?_⟩
      · have : (i 0).val / 64 = 9 := congrArg Fin.val h'; omega
      · show 64 * ((i 0).val / 64) ≤ _ ∧ _ < 64 * ((i 0).val / 64) + llen _
        unfold llen; rw [if_pos (by show (i 0).val / 64 < 8; omega)]; omega
    · refine ⟨8, by decide, ?_⟩
      show 512 ≤ _ ∧ _ < 512 + 192
      omega
  rw [← hu]
  exact pointsTo_biUnion _ _ fun i hi j hj hij => rows_disj (ldst_disj i j (Finset.mem_erase.mp hi).1 (Finset.mem_erase.mp hj).1 hij)

theorem snd_disj : ∀ t t' : T, srcT t = none → srcT t' = none → t ≠ t' → 64 * ord t + len t ≤ 64 * ord t' ∨ 64 * ord t' + len t' ≤ 64 * ord t := by
  decide +kernel

omit [FloatOps F] in
/-- The send buffer, divided into what is sent. -/
theorem snd_div (c : Dev nD) (f : S704x2048.Idx → Elt F .bf16) :
    (((c : Thread nD τ).loc cc0_scratch1) ↦[Finset.univ]{fullShare} f : sProp 𝕄)
      = bigSep (Finset.univ.filter fun t : T => srcT t = none) fun t => sndPts c (64 * ord t) (len t) f := by
  have hu : ((Finset.univ.filter fun t : T => srcT t = none).biUnion fun t => rows (s := S704x2048) 0 (64 * ord t) (len t)) = Finset.univ := by
    refine rows_cover (s := S704x2048) _ 0 (fun t => 64 * ord t) len fun i => ?_
    have hi : (i 0).val < 704 := (i 0).isLt
    by_cases h : (i 0).val < 512
    · refine ⟨.x ⟨(i 0).val / 64, by omega⟩, Finset.mem_filter.mpr ⟨Finset.mem_univ _, rfl⟩, ?_⟩
      show 64 * ((i 0).val / 64) ≤ _ ∧ _ < 64 * ((i 0).val / 64) + 64
      omega
    · refine ⟨.xa, by decide +kernel, ?_⟩
      show 512 ≤ _ ∧ _ < 512 + 192
      omega
  rw [← hu]
  exact pointsTo_biUnion _ _ fun t ht t' ht' hne => rows_disj (snd_disj t t' (Finset.mem_filter.mp ht).2 (Finset.mem_filter.mp ht').2 hne)

theorem rcv_cover : ∀ (c : Dev nD) (b : Fin 32), ∃ t, roff c t ≤ 64 * b.val ∧ 64 * b.val + 64 ≤ roff c t + len t := by decide +kernel

omit [FloatOps F] in
/-- The receive buffer, divided into what the transfers fill. -/
theorem rcv_div (c : Dev nD) (f : S2048x2048.Idx → Elt F .bf16) :
    (((c : Thread nD τ).loc cc0_scratch2) ↦[Finset.univ]{fullShare} f : sProp 𝕄) = bigSep Finset.univ fun t : T => slot c t f := by
  have hu : ((Finset.univ : Finset T).biUnion fun t => rows (s := S2048x2048) 0 (roff c t) (len t)) = Finset.univ := by
    refine rows_cover (s := S2048x2048) _ 0 (roff c) len fun i => ?_
    have hi : (i 0).val < 2048 := (i 0).isLt
    obtain ⟨t, h1, h2⟩ := rcv_cover c ⟨(i 0).val / 64, by omega⟩
    simp only at h1 h2
    exact ⟨t, Finset.mem_univ _, by omega, by omega⟩
  rw [← hu]
  exact pointsTo_biUnion _ _ fun t _ t' _ hne => rows_disj (roff_disj c t t' hne)

theorem lsrc_disj : ∀ (c : Dev nD) (i j : Fin 10), i ≠ j → lsrc c i + llen i ≤ lsrc c j ∨ lsrc c j + llen j ≤ lsrc c i := by decide +kernel

/-- The rows of its block of the operand a device does not read. -/
def argRest (c : Dev nD) : sProp 𝕄 :=
  ((c : Thread nD τ).loc main_arg0) ↦[Finset.univ \ Finset.univ.biUnion fun i : Fin 10 => rows (s := S1x4096x2048) 1 (lsrc c i) (llen i)]{fullShare} Xm m c

omit [FloatOps F] in
/-- A device's block of the operand, divided into what the copies read and the rest. -/
theorem arg_div (c : Dev nD) :
    (((c : Thread nD τ).loc main_arg0) ↦[Finset.univ]{fullShare} Xm m c : sProp 𝕄)
      = iprop((bigSep Finset.univ fun i : Fin 10 => argPts m c (lsrc c i) (llen i)) ∗ argRest m c) := by
  have h : (((c : Thread nD τ).loc main_arg0) ↦[Finset.univ.biUnion fun i : Fin 10 => rows (s := S1x4096x2048) 1 (lsrc c i) (llen i)]{fullShare} Xm m c : sProp 𝕄)
      = bigSep Finset.univ fun i : Fin 10 => argPts m c (lsrc c i) (llen i) :=
    pointsTo_biUnion _ _ fun i _ j _ hne => rows_disj (lsrc_disj c i j hne)
  rw [← h]
  have e := pointsTo_split_subset (Val := Elt F) (Ix := Unit) (Name := ℕ) (U := UU) (Lvl := ℕ) (ℓ := (c : Thread nD τ).loc main_arg0) (q := fullShare) (f := Xm m c)
    (Finset.subset_univ (Finset.univ.biUnion fun i : Fin 10 => rows (s := S1x4096x2048) 1 (lsrc c i) (llen i)))
  exact BI.Entails.antisymm e.1 e.2

/-! ## The start -/

/-- The tokens of the duties device `c` pays. -/
def payToks (c : Dev nD) : sProp 𝕄 :=
  iprop((bigSep Finset.univ fun d : Ax => dutyTok ER (barCell (peer d c)) 0 d)
    ∗ (bigSep Finset.univ fun t : T => dutyTok ER (sndCell c t) 0 0)
    ∗ (bigSep Finset.univ fun t : T => dutyTok ER (rcvCell (dest t c) t) 0 0)
    ∗ bigSep Finset.univ fun i : Fin 10 => dutyTok ER (locCell c i) 0 0)

/-- Device `c`'s places in its cells. -/
def places (c : Dev nD) : sProp 𝕄 :=
  iprop(at0 (F := F) c none ∗ (bigSep Finset.univ fun t : T => at0 (F := F) c (some (.inl t)))
    ∗ (bigSep Finset.univ fun t : T => at0 (F := F) c (some (.inr (.inl t))))
    ∗ bigSep Finset.univ fun i : Fin 10 => at0 (F := F) c (some (.inr (.inr i))))

/-- A buffer of device `c`, whole, at some contents. -/
abbrev someBuf (c : Dev nD) (b : Ref sig .tc) : sProp 𝕄 := iprop(∃ f : Buf (Elt F) ((c : Thread nD τ).loc b), ((c : Thread nD τ).loc b) ↦[Finset.univ]{fullShare} f)

omit [FloatOps F] in
theorem any_intro (c : Dev nD) : iprop(someBuf (F := F) c cc0_scratch0 ∗ someBuf c cc0_stg1_0) ⊢ bigSep Finset.univ fun i : Fin 10 => ldstAny (F := F) c i := by
  rw [bigSep_univ_at _ (9 : Fin 10)]
  have h : ∀ f, (((c : Thread nD τ).loc cc0_scratch0) ↦[Finset.univ]{fullShare} f : sProp 𝕄) ⊢ bigSep (Finset.univ.erase (9 : Fin 10)) fun i => ldstAny (F := F) c i := by
    intro f
    refine (Entails.of_eq (stg_div c f)).trans (bigSep_mono fun i hi => ?_)
    have hi' : i.val < 9 := by
      have h1 := (Finset.mem_erase.mp hi).1
      have h2 : i.val ≠ 9 := fun h => h1 (Fin.ext h)
      have := i.isLt; omega
    unfold ldstAny; rw [if_pos hi']
    exact exists_intro (Φ := fun f => stgPts (F := F) c (ldst i) (llen i) f) f
  iintro ⟨⟨%f, H⟩, ⟨%g, Ho⟩⟩
  isplitl [Ho]
  · unfold ldstAny; rw [if_neg (by decide)]; iexists g; unfold outPts; iexact Ho
  · iapply (h f); iexact H

theorem loc_intro (c : Dev nD) :
    iprop((bigSep Finset.univ fun i : Fin 10 => dutyTok ER (locCell c i) 0 0) ∗ (bigSep Finset.univ fun i : Fin 10 => at0 (F := F) c (some (.inr (.inr i))))
        ∗ (bigSep Finset.univ fun i : Fin 10 => argPts m c (lsrc c i) (llen i)) ∗ someBuf (F := F) c cc0_scratch0 ∗ someBuf c cc0_stg1_0)
      ⊢ bigSep Finset.univ fun i : Fin 10 => Loc1 m c 0 0 i := by
  have e : ∀ i, Loc1 m c 0 0 i = iprop(dutyTok ER (locCell c i) 0 0 ∗ at0 (F := F) c (some (.inr (.inr i))) ∗ argPts m c (lsrc c i) (llen i) ∗ ldstAny c i) :=
    fun i => by unfold Loc1; rw [if_neg (Nat.not_lt_zero _), if_neg (Nat.not_lt_zero _)]
  rw [bigSep_congr fun i _ => e i, bigSep_sep', bigSep_sep', bigSep_sep']
  iintro ⟨H1, H2, H3, H4⟩
  isplitl [H1]; · iexact H1
  isplitl [H2]; · iexact H2
  isplitl [H3]; · iexact H3
  iapply (any_intro (F := F) c); iexact H4

theorem stock_intro (c : Dev nD) : someBuf (F := F) c cc0_scratch1 ⊢ bigSep Finset.univ fun t : T => stock m c 0 0 t := by
  have e : ∀ t : T, (if srcT t = none then iprop(∃ f, sndPts (F := F) c (64 * ord t) (len t) f) else iprop(emp)) ⊢ stock m c 0 0 t := by
    intro t
    unfold stock
    cases srcT t with
    | none => rw [if_pos rfl]; simp only; rw [if_neg (Nat.not_lt_zero _)]
    | some u => rw [if_neg (by simp)]; simp only; rw [if_neg (Nat.not_lt_zero _)]
  refine BI.Entails.trans ?_ (bigSep_mono fun t _ => e t)
  refine BI.Entails.trans ?_ (Entails.of_eq (bigSep_filter Finset.univ (fun t : T => srcT t = none) fun t => iprop(∃ f, sndPts (F := F) c (64 * ord t) (len t) f)))
  have h : ∀ f, (((c : Thread nD τ).loc cc0_scratch1) ↦[Finset.univ]{fullShare} f : sProp 𝕄)
      ⊢ bigSep (Finset.univ.filter fun t : T => srcT t = none) fun t => iprop(∃ f, sndPts (F := F) c (64 * ord t) (len t) f) :=
    fun f => (Entails.of_eq (snd_div c f)).trans (bigSep_mono fun t _ => exists_intro (Φ := fun f => sndPts (F := F) c (64 * ord t) (len t) f) f)
  show (_ : sProp 𝕄) ⊢ _
  iintro ⟨%f, H⟩
  iapply (h f); iexact H

theorem snd_intro (c : Dev nD) :
    iprop((bigSep Finset.univ fun t : T => dutyTok ER (sndCell c t) 0 0) ∗ (bigSep Finset.univ fun t : T => dutyTok ER (rcvCell (dest t c) t) 0 0)
        ∗ (bigSep Finset.univ fun t : T => at0 (F := F) c (some (.inl t))) ∗ someBuf (F := F) c cc0_scratch1)
      ⊢ bigSep Finset.univ fun t : T => Snd1 m c 0 0 0 0 0 t := by
  have e : ∀ t, iprop(dutyTok ER (sndCell c t) 0 0 ∗ dutyTok ER (rcvCell (dest t c) t) 0 0 ∗ at0 (F := F) c (some (.inl t)) ∗ stock m c 0 0 t) ⊢ Snd1 m c 0 0 0 0 0 t := by
    intro t
    unfold Snd1; rw [if_neg (Nat.not_lt_zero _), if_neg (Nat.not_lt_zero _), if_neg (by decide)]
    iintro ⟨H1, H2, H3, H4⟩
    isplitl [H1]; · iexact H1
    isplitl [H2]; · iexact H2
    isplitl [H3]; · iexact H3
    isplitr; · iempintro
    iexact H4
  refine BI.Entails.trans ?_ (bigSep_mono fun t _ => e t)
  rw [bigSep_sep', bigSep_sep', bigSep_sep']
  show (_ : sProp 𝕄) ⊢ _
  iintro ⟨H1, H2, H3, H4⟩
  isplitl [H1]; · iexact H1
  isplitl [H2]; · iexact H2
  isplitl [H3]; · iexact H3
  iapply (stock_intro m c); iexact H4

theorem rcv_intro (c : Dev nD) :
    iprop((bigSep Finset.univ fun t : T => at0 (F := F) c (some (.inr (.inl t)))) ∗ bigSep Finset.univ fun t : T => cred (tallyAt (rcvCell c t) () (NT t)))
      ⊢ bigSep Finset.univ fun t : T => Rcv1 m c 0 t := by
  have e : ∀ t, Rcv1 m c 0 t = iprop(at0 (F := F) c (some (.inr (.inl t))) ∗ cred (tallyAt (rcvCell c t) () (NT t))) :=
    fun t => by unfold Rcv1; rw [if_neg (Nat.not_lt_zero _)]
  rw [bigSep_congr fun t _ => e t, bigSep_sep']

omit [FloatOps F] in
theorem slots_intro (c : Dev nD) : someBuf (F := F) c cc0_scratch2
    ⊢ bigSep Finset.univ fun d : Ax => bigSep Finset.univ fun t : T => if ax t = d then iprop(∃ f, slot (F := F) c t f) else iprop(emp) := by
  rw [bigSep_univ_comm]
  have e : ∀ t : T, (bigSep Finset.univ fun d : Ax => if ax t = d then iprop(∃ f, slot (F := F) c t f) else iprop(emp)) = iprop(∃ f, slot (F := F) c t f) := by
    intro t
    have h1 := bigSep_filter Finset.univ (fun d : Ax => ax t = d) fun _ => iprop(∃ f, slot (F := F) c t f)
    rw [show (Finset.univ.filter fun d : Ax => ax t = d) = {ax t} from by ext d; simp [eq_comm], bigSep_singleton] at h1
    exact h1.symm
  rw [bigSep_congr fun t _ => e t]
  have h : ∀ f, (((c : Thread nD τ).loc cc0_scratch2) ↦[Finset.univ]{fullShare} f : sProp 𝕄) ⊢ bigSep Finset.univ fun t : T => iprop(∃ f, slot (F := F) c t f) :=
    fun f => (Entails.of_eq (rcv_div c f)).trans (bigSep_mono fun t _ => exists_intro (Φ := fun f => slot (F := F) c t f) f)
  iintro ⟨%f, H⟩
  iapply (h f); iexact H

omit [FloatOps F] in
theorem bar_intro (c : Dev nD) :
    iprop((bigSep Finset.univ fun d : Ax => dutyTok ER (barCell (peer d c)) 0 d) ∗ someBuf (F := F) c cc0_scratch2 ∗ at0 (F := F) c none ∗ cred (tallyAt (barCell c) () 3))
      ⊢ Bar (F := F) c 0 := by
  have e : iprop((bigSep Finset.univ fun d : Ax => dutyTok ER (barCell (peer d c)) 0 d) ∗ someBuf (F := F) c cc0_scratch2)
      ⊢ iprop(bgive (F := F) c 0 ∗ bgive c 1 ∗ bgive c 2) := by
    refine (BIClass.sep_mono (BI.Entails.refl _) (slots_intro (F := F) c)).trans ?_
    rw [← bigSep_sep']
    exact Entails.of_eq (bigSep_univ_eq_bigSepL [0, 1, 2] (by decide) (by decide) fun d => bgive (F := F) c d)
  show _ ⊢ iprop(bgive c 0 ∗ bgive c 1 ∗ bgive c 2 ∗ at0 (F := F) c none ∗ cred (tallyAt (barCell c) () 3))
  iintro ⟨H1, H2, H3, H4⟩
  ihave H := e $$ [H1 H2]
  · isplitl [H1] <;> iassumption
  icases H with ⟨G0, G1, G2⟩
  isplitl [G0]; · iexact G0
  isplitl [G1]; · iexact G1
  isplitl [G2]; · iexact G2
  isplitl [H3] <;> iassumption

/-- What device `c` holds when it starts, gathered into the state before the first step. -/
theorem st_intro (K : Dev nD × Cl → ℕ) (c : Dev nD) :
    iprop(Inv m K ∗ places c ∗ payToks c ∗ cred (tallyAt (barCell c) () 3) ∗ (bigSep Finset.univ fun t : T => cred (tallyAt (rcvCell c t) () (NT t)))
        ∗ (bigSep Finset.univ fun i : Fin 10 => argPts m c (lsrc c i) (llen i))
        ∗ someBuf (F := F) c cc0_scratch0 ∗ someBuf (F := F) c cc0_scratch1 ∗ someBuf (F := F) c cc0_scratch2
        ∗ (∃ W, owes (c : Thread nD τ) (O₀ c) W) ∗ gamPts m c ∗ someBuf (F := F) c cc0_stg1_0)
      ⊢ St m K c 0 0 0 0 0 0 0 0 := by
  unfold St places payToks
  iintro ⟨HI, ⟨A1, A2, A3, A4⟩, ⟨T1, T2, T3, T4⟩, HB, HR, HX, S0, S1, S2, HO, HG, HU⟩
  isplitl [HI]; · iexact HI
  isplitl [HO]; · iexact HO
  isplitl [A1 T1 HB S2]
  · iapply (bar_intro (F := F) c)
    isplitl [T1]; · iexact T1
    isplitl [S2]; · iexact S2
    isplitl [A1]; · iexact A1
    iexact HB
  isplitl [A4 T4 HX S0 HU]
  · iapply (loc_intro m c)
    isplitl [T4]; · iexact T4
    isplitl [A4]; · iexact A4
    isplitl [HX]; · iexact HX
    isplitl [S0]; · iexact S0
    iexact HU
  isplitl [A2 T2 T3 S1]
  · iapply (snd_intro m c)
    isplitl [T2]; · iexact T2
    isplitl [T3]; · iexact T3
    isplitl [A2]; · iexact A2
    iexact S1
  isplitl [A3 HR]
  · iapply (rcv_intro m c)
    isplitl [A3]; · iexact A3
    iexact HR
  isplitr
  · unfold Out; rw [if_neg (by decide)]; iempintro
  iexact HG

/-! ## The end -/

theorem loc_exit (c : Dev nD) : (bigSep Finset.univ fun i : Fin 10 => Loc1 m c 10 10 i)
    ⊢ iprop((bigSep Finset.univ fun i : Fin 10 => semVal (locCell c i) 0) ∗ (bigSep Finset.univ fun i : Fin 10 => argPts m c (lsrc c i) (llen i))
      ∗ someBuf (F := F) c cc0_scratch0) := by
  have e : ∀ i, Loc1 m c 10 10 i = iprop(semVal (locCell c i) 0 ∗ argPts m c (lsrc c i) (llen i) ∗ if i.val < 9 then ldstPts m c i else iprop(emp)) :=
    fun i => by unfold Loc1; rw [if_pos i.isLt]
  rw [bigSep_congr fun i _ => e i, bigSep_sep', bigSep_sep']
  have h : (bigSep Finset.univ fun i : Fin 10 => if i.val < 9 then ldstPts m c i else iprop(emp)) ⊢ someBuf (F := F) c cc0_scratch0 := by
    rw [bigSep_univ_at _ (9 : Fin 10)]
    refine sep_elim_right.trans ?_
    refine BI.Entails.trans ?_ (exists_intro (Φ := fun f => (((c : Thread nD τ).loc cc0_scratch0) ↦[Finset.univ]{fullShare} f : sProp 𝕄)) (Gc m c))
    rw [stg_div c (Gc m c)]
    refine bigSep_mono fun i hi => ?_
    have hi' : i.val < 9 := by
      have h1 := (Finset.mem_erase.mp hi).1
      have h2 : i.val ≠ 9 := fun h => h1 (Fin.ext h)
      have := i.isLt; omega
    rw [if_pos hi']; unfold ldstPts; rw [if_pos hi']; exact BI.Entails.refl _
  iintro ⟨H1, H2, H3⟩
  isplitl [H1]; · iexact H1
  isplitl [H2]; · iexact H2
  iapply h; iexact H3

theorem passes_cover : (Finset.univ.filter fun t : T => ¬ srcT t = none) = Finset.univ.biUnion fws := by decide +kernel
theorem passes_disj : ∀ t t' : T, t ≠ t' → Disjoint (fws t) (fws t') := by
  intro t t' h
  rw [Finset.disjoint_left]
  intro u hu hu'
  exact h (Option.some.inj ((Finset.mem_filter.mp hu).2.symm.trans (Finset.mem_filter.mp hu').2))

/-- The pieces passed on, by the piece they come from. -/
theorem passes_eq (Φ : T → sProp 𝕄) : (bigSep Finset.univ Φ)
    ⊢ iprop((bigSep (Finset.univ.filter fun t : T => srcT t = none) Φ) ∗ bigSep Finset.univ fun t : T => bigSep (fws t) Φ) := by
  rw [bigSep_filter_split Finset.univ fun t : T => srcT t = none, passes_cover]
  refine BIClass.sep_mono (BI.Entails.refl _) ?_
  have key : ∀ S : Finset T, bigSep (S.biUnion fws) Φ ⊢ bigSep S fun t => bigSep (fws t) Φ := by
    intro S
    induction S using Finset.induction_on with
    | empty => rw [Finset.biUnion_empty, bigSep_empty, bigSep_empty]
    | insert a S ha ih =>
      rw [Finset.biUnion_insert, bigSep_union, bigSep_insert ha]
      · exact BIClass.sep_mono (BI.Entails.refl _) ih
      · exact Finset.disjoint_biUnion_right _ _ _ |>.mpr fun t ht => passes_disj a t fun h => ha (h ▸ ht)
  exact key _

theorem fws_cases : ∀ t : T, fws t = ∅ ∨ (∃ s, t = .x s) ∨ (∃ k : Fin 3, t = .zd ⟨k.val, by omega⟩) ∨ ∃ k : Fin 2, t = .yd ⟨k.val + 3, by omega⟩ := by
  decide +kernel
theorem zd_notMem : ∀ s, (.zd s : T) ∉ ({.yd s} : Finset T) := by decide

/-- A received piece is whole again once the transfers that passed it on have left. -/
theorem piece_exit (c : Dev nD) (t : T) : iprop(kept m c t ∗ bigSep (fws t) (srcPts m c)) ⊢ slot c t (Rc m c) := by
  have hq : iprop((rcvPts c (roff c t) (len t) fullShare.left (Rc m c)) ∗ rcvPts c (roff c t) (len t) fullShare.right (Rc m c)) ⊢ slot c t (Rc m c) :=
    (pointsTo_share (PosShare.mem_left_op_right fullShare)).2
  refine BI.Entails.trans ?_ hq
  unfold kept
  by_cases h : fws t = ∅
  · rw [if_pos h]
    show (_ : sProp 𝕄) ⊢ _
    iintro ⟨H, -⟩
    iexact H
  · rw [if_neg h]
    have hr : bigSep (fws t) (srcPts m c) ⊢ rcvPts c (roff c t) (len t) fullShare.right (Rc m c) := by
      rcases fws_cases t with h' | ⟨s, rfl⟩ | ⟨k, rfl⟩ | ⟨k, rfl⟩
      · exact absurd h' h
      · rw [fws_x, bigSep_insert (zd_notMem s), bigSep_singleton]
        exact (pointsTo_share (PosShare.mem_left_op_right fullShare.right)).2
      · rw [fws_zd, bigSep_singleton]; exact BI.Entails.refl _
      · rw [fws_yd, bigSep_singleton]; exact BI.Entails.refl _
    refine BIClass.sep_mono ?_ hr
    show (_ : sProp 𝕄) ⊢ _
    iintro ⟨H, -⟩
    iexact H

theorem moves_exit (c : Dev nD) :
    iprop((bigSep Finset.univ fun t : T => Snd1 m c 4 9 30 30 30 t) ∗ bigSep Finset.univ fun t : T => Rcv1 m c 30 t)
      ⊢ iprop((bigSep Finset.univ fun t : T => semVal (sndCell c t) 0) ∗ (bigSep Finset.univ fun t : T => semVal (rcvCell c t) 0)
        ∗ someBuf (F := F) c cc0_scratch1 ∗ someBuf (F := F) c cc0_scratch2) := by
  have e : ∀ t, Snd1 m c 4 9 30 30 30 t = iprop(semVal (sndCell c t) 0 ∗ srcPts m c t) := fun t => by unfold Snd1; rw [if_pos (sord_lt t)]
  have e' : ∀ t, Rcv1 m c 30 t = iprop(semVal (rcvCell c t) 0 ∗ kept m c t) := fun t => by unfold Rcv1; rw [if_pos (rord_lt t)]
  rw [bigSep_congr fun t _ => e t, bigSep_congr fun t _ => e' t, bigSep_sep', bigSep_sep']
  have h1 : (bigSep (Finset.univ.filter fun t : T => srcT t = none) fun t => srcPts m c t) ⊢ someBuf (F := F) c cc0_scratch1 := by
    refine BI.Entails.trans ?_ (exists_intro (Φ := fun f => (((c : Thread nD τ).loc cc0_scratch1) ↦[Finset.univ]{fullShare} f : sProp 𝕄)) (Sc m c))
    rw [snd_div c (Sc m c)]
    refine bigSep_mono fun t ht => ?_
    have ht' := (Finset.mem_filter.mp ht).2
    cases t <;> first | exact BI.Entails.refl _ | cases ht'
  have h2 : iprop((bigSep Finset.univ fun t : T => kept m c t) ∗ bigSep Finset.univ fun t : T => bigSep (fws t) fun u => srcPts m c u) ⊢ someBuf (F := F) c cc0_scratch2 := by
    refine BI.Entails.trans ?_ (exists_intro (Φ := fun f => (((c : Thread nD τ).loc cc0_scratch2) ↦[Finset.univ]{fullShare} f : sProp 𝕄)) (Rc m c))
    rw [rcv_div c (Rc m c), ← bigSep_sep']
    exact bigSep_mono fun t _ => piece_exit m c t
  iintro ⟨⟨H1, H2⟩, H3, H4⟩
  ihave H := (passes_eq (F := F) fun t => srcPts m c t) $$ H2
  icases H with ⟨H5, H6⟩
  isplitl [H1]; · iexact H1
  isplitl [H3]; · iexact H3
  isplitl [H5]; · iapply h1; iexact H5
  iapply h2
  isplitl [H4] <;> iassumption

/-- What device `c` holds when it has finished. -/
theorem st_exit (K : Dev nD × Cl → ℕ) (c : Dev nD) : St m K c 4 10 10 9 30 30 30 4
    ⊢ iprop((∃ W, owes (c : Thread nD τ) 0 W) ∗ semVal (barCell c) 0
      ∗ ((bigSep Finset.univ fun t : T => semVal (sndCell c t) 0) ∗ (bigSep Finset.univ fun t : T => semVal (rcvCell c t) 0)
        ∗ bigSep Finset.univ fun i : Fin 10 => semVal (locCell c i) 0)
      ∗ (bigSep Finset.univ fun i : Fin 10 => argPts m c (lsrc c i) (llen i))
      ∗ (someBuf (F := F) c cc0_scratch0 ∗ someBuf (F := F) c cc0_scratch1 ∗ someBuf (F := F) c cc0_scratch2)
      ∗ outPts c (outC m c 4) ∗ gamPts m c) := by
  have ho : obl c 4 30 = 0 := owe_end c
  have hB : Bar (F := F) c 4 ⊢ semVal (barCell c) 0 := BI.Entails.refl _
  have hU : Out m c 10 4 ⊢ outPts c (outC m c 4) := by unfold Out; rw [if_pos (le_refl _)]
  unfold St
  rw [ho]
  iintro ⟨-, HO, HB, HL, HS, HR, HU, HG⟩
  ihave H := (loc_exit m c) $$ HL
  icases H with ⟨L1, L2, L3⟩
  ihave H := (moves_exit m c) $$ [HS HR]
  · isplitl [HS] <;> iassumption
  icases H with ⟨M1, M2, M3, M4⟩
  isplitl [HO]; · iexact HO
  isplitl [HB]; · iapply hB; iexact HB
  isplitl [M1 M2 L1]
  · isplitl [M1]; · iexact M1
    isplitl [M2]; · iexact M2
    iexact L1
  isplitl [L2]; · iexact L2
  isplitl [L3 M3 M4]
  · isplitl [L3]; · iexact L3
    isplitl [M3]; · iexact M3
    iexact M4
  isplitl [HU]; · iapply hU; iexact HU
  iexact HG

end Cert.KernelIdealProof
-- ==== Proof.KernelIdealLaunch.lean ====
module

public import proofs.«01_k».proof.Proof.KernelIdealBody
public import proofs.«01_k».proof.Proof.KernelIdealEnds
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The run of one device -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' records. -/
def recs (K : Dev nD × Cl → ℕ) : sProp 𝕄 :=
  bigSep Finset.univ fun ck : Dev nD × Cl => iprop(cellInv ER (Rd m) (K ck) (cell ck.1 ck.2) ∗ reached ER (cell ck.1 ck.2) 0)

instance recs_persistent (K : Dev nD × Cl → ℕ) : BI.Persistent (recs (F := F) m K) := by unfold recs; infer_instance

/-- What the launch makes for device `c`: the records, its places and the tokens of the duties it pays. -/
def G' (c : Dev nD) : sProp 𝕄 := iprop(∃ K, recs m K ∗ places c ∗ payToks c)

/-- Device `c`'s block of the operand. -/
abbrev argBuf (c : Dev nD) : sProp 𝕄 := ((c : Thread nD τ).loc main_arg0) ↦[Finset.univ]{fullShare} Xm m c

/-- What device `c` starts from. -/
def start (c : Dev nD) : sProp 𝕄 :=
  iprop(G' m c ∗ levAts L lv ∗ cred (tallyAt (barCell c) () 3) ∗ (bigSep Finset.univ fun t : T => cred (tallyAt (rcvCell c t) () (NT t))) ∗ argBuf m c)

/-- The three scratch buffers. -/
def bufs (c : Dev nD) : sProp 𝕄 := iprop(someBuf (F := F) c cc0_scratch0 ∗ someBuf (F := F) c cc0_scratch1 ∗ someBuf (F := F) c cc0_scratch2)

/-- The counters of the kernel's own semaphores, all back at zero. -/
def sems (c : Dev nD) : sProp 𝕄 :=
  iprop((bigSep Finset.univ fun t : T => semVal (sndCell c t) 0) ∗ (bigSep Finset.univ fun t : T => semVal (rcvCell c t) 0)
    ∗ bigSep Finset.univ fun i : Fin 10 => semVal (locCell c i) 0)

def Φ₀ (c : Dev nD) : sProp 𝕄 := iprop(start m c ∗ bufs (F := F) c)
def Φ₁ (c : Dev nD) : sProp 𝕄 := iprop((semVal (barCell c) 0 ∗ argBuf m c) ∗ sems (F := F) c ∗ bufs (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gam m c
    | ⟨1, _⟩ => outC m c 4
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt () t₀.succ ∗ stg c cc0_stg0_0 (gam m c) ∗ stg c cc0_stg1_0 (outC m c 4))

theorem before_0 (c : Dev nD) (d) : (dats m ρ 0 c).before (0 : Fin 2) t₀ d = gam m c := by
  unfold Dat.before; rw [if_pos (fetch_0 t₀)]
  have h : (dats m ρ 0 c).fetched (0 : Fin 2) t₀ d = (win0_0.blk t0_0).view.read (Elt F) (gam m c) := rfl
  rw [h]
  exact Memref.read_access_unit_zero (Elt F) main_arg1 (funext fun a => Nat.zero_mul _) _ _

/-- The state before the body, from what the body is given. -/
theorem pre_St (c : Dev nD) : bodyPre m ρ c ⊢ iprop(∃ K, St m K c 0 0 0 0 0 0 0 0 ∗ argRest m c) := by
  unfold bodyPre Φ₀ start G' bufs
  iintro ⟨⟨⟨⟨%K, #HK, HP, HT⟩, #HL, HB, HR, HX⟩, S0, S1, S2⟩, HO, ⟨%d, Hg⟩, ⟨%d', Ho⟩⟩
  ihave HX' := (Entails.of_eq (arg_div m c)) $$ HX
  icases HX' with ⟨HX, HZ⟩
  iexists K
  isplitr [HZ]
  · iapply (st_intro m K c)
    isplitr
    · unfold Inv
      isplitl
      · unfold recs; iexact HK
      · iexact HL
    isplitl [HP]; · iexact HP
    isplitl [HT]; · iexact HT
    isplitl [HB]; · iexact HB
    isplitl [HR]; · iexact HR
    isplitl [HX]; · iexact HX
    isplitl [S0]; · iexact S0
    isplitl [S1]; · iexact S1
    isplitl [S2]; · iexact S2
    isplitl [HO]
    · unfold Dat.owesAt Pipeline.owesWithin
      icases HO with ⟨%W, %hW, HO⟩
      iexists W
      rw [show (dats m ρ 0 c).owed t₀.castSucc = O₀ c from rfl]
      iexact HO
    isplitl [Hg]
    · icases Hg with ⟨%f, %hf, Hg⟩
      rw [before_0 m ρ c d] at hf
      subst hf
      unfold gamPts
      iexact Hg
    icases Ho with ⟨%f, %hf, Ho⟩
    iexists f
    iexact Ho
  iexact HZ

theorem St_post (K : Dev nD × Cl → ℕ) (c : Dev nD) : iprop(St m K c 4 10 10 9 30 30 30 4 ∗ argRest m c) ⊢ bodyPost m ρ c := by
  unfold bodyPost Φ₁ sems bufs
  iintro ⟨HS, HZ⟩
  ihave H := (st_exit m K c) $$ HS
  icases H with ⟨HO, HB, HM, HX, HU, Ho, Hg⟩
  isplitr [HO Ho Hg]
  · isplitl [HB HX HZ]
    · isplitl [HB]; · iexact HB
      iapply (Entails.of_eq (arg_div m c).symm)
      isplitl [HX] <;> iassumption
    isplitl [HM]; · iexact HM
    iexact HU
  isplitl [HO]
  · unfold Dat.owesAt Pipeline.owesWithin
    icases HO with ⟨%W, HO⟩
    iexists W
    isplitr
    · ipureintro; exact fun _ _ => Or.inl trivial
    rw [show (dats m ρ 0 c).owed t₀.succ = 0 from rfl]
    iexact HO
  isplitl [Hg]
  · iexists _; isplitr; · (ipureintro; rfl)
    unfold gamPts; iexact Hg
  iexists _; isplitr; · (ipureintro; rfl)
  unfold outPts; iexact Ho

set_option maxRecDepth 100000 in
/-- One device's run of the kernel. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wpc c (cc0_body (F := F) a0 (Memref.isWhole_whole _) a1 (Memref.isWhole_whole _) a2 (Memref.isWhole_whole _) a3 (Memref.isWhole_whole _)
    a4 (Memref.isWhole_whole _) a5 (Memref.isWhole_whole _) cc0_scratch3 cc0_scratch4 cc0_scratch5 cc0_scratch6 cc0_scratch7 cc0_scratch8 cc0_scratch9 cc0_scratch10)
    (fun _ => bodyPost m ρ c)
  refine (pre_St m ρ c).trans (exists_elim fun K => ?_)
  have h : St m K c 0 0 0 0 0 0 0 0 ⊢ wpc c (cc0_body (F := F) a0 (Memref.isWhole_whole _) a1 (Memref.isWhole_whole _) a2 (Memref.isWhole_whole _) a3 (Memref.isWhole_whole _)
      a4 (Memref.isWhole_whole _) a5 (Memref.isWhole_whole _) cc0_scratch3 cc0_scratch4 cc0_scratch5 cc0_scratch6 cc0_scratch7 cc0_scratch8 cc0_scratch9 cc0_scratch10)
      (fun _ => St m K c 4 10 10 9 30 30 30 4) := body_run m c (BI.Entails.refl _)
  exact (sep_mono_left h).trans ((wp_frame_r _ _ _).trans (wp_mono _ _ _ fun _ => St_post m ρ K c))

/-! ## The launch -/

theorem ownSemFacts : Pipeline.OwnSemFacts cfg0.spec osem := by decide +kernel

theorem share_eq (c : Dev nD) (w : Fin cfg0.W) : (dats m ρ 0 c).share w = fullShare := by unfold Dat.share; split <;> rfl

abbrev kcell (ck : Dev nD × Cl) : GSem nD τ sig := cell ck.1 ck.2

theorem kcell_injective : Function.Injective (kcell : Dev nD × Cl → GSem nD τ sig) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨kcell, kcell_injective⟩

/-- The duties of device `c`'s own cells: one per neighbour at its barrier, one at each of its other semaphores. -/
abbrev tokOf (cj : Dev nD × (Ax ⊕ OC)) : GSem nD τ sig × ℕ × Ax := match cj.2 with
  | .inl d => (barCell cj.1, 0, d) | .inr k => (cell cj.1 (some k), 0, 0)
theorem tokOf_injective : Function.Injective (tokOf : Dev nD × (Ax ⊕ OC) → GSem nD τ sig × ℕ × Ax) := by
  rintro ⟨c, j⟩ ⟨c', j'⟩ h
  have hc : c = c' := by
    have := congrArg (fun x : GSem nD τ sig × ℕ × Ax => x.1.1.1) h
    rcases j with j | j <;> rcases j' with j' | j' <;> exact this
  subst hc
  have hs := congrArg (fun x : GSem nD τ sig × ℕ × Ax => x.1.2) h
  rcases j with d | k <;> rcases j' with d' | k'
  · have hd : d = d' := congrArg (fun x : GSem nD τ sig × ℕ × Ax => x.2.2) h
    rw [hd]
  · exact absurd (csem_inj (a₁ := none) (a₂ := some k') hs) (by simp)
  · exact absurd (csem_inj (a₁ := some k) (a₂ := none) hs) (by simp)
  · rw [osem_inj hs]
def ringToks : Finset (GSem nD τ sig × ℕ × Ax) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Ax => dutyTok ER (barCell c) 0 d)
    ∗ (bigSep Finset.univ fun t : T => dutyTok ER (sndCell c t) 0 0)
    ∗ (bigSep Finset.univ fun t : T => dutyTok ER (rcvCell c t) 0 0)
    ∗ bigSep Finset.univ fun i : Fin 10 => dutyTok ER (locCell c i) 0 0)

/-- What the launch deals device `c`. -/
def G (c : Dev nD) : sProp 𝕄 :=
  iprop((bigSep Finset.univ fun k : Cl => roundState ER (Rd m) (kcell (c, k)) 0)
    ∗ (bigSep Finset.univ fun k : Cl => iprop(atPos ER (kcell (c, k)) 0 ∅ 0 ∗ reached ER (kcell (c, k)) 0)) ∗ toks c)

omit [FloatOps F] in
theorem bigSep_oc (Φ : OC → sProp 𝕄) : bigSep Finset.univ Φ
    = iprop((bigSep Finset.univ fun t : T => Φ (.inl t)) ∗ (bigSep Finset.univ fun t : T => Φ (.inr (.inl t))) ∗ bigSep Finset.univ fun i : Fin 10 => Φ (.inr (.inr i))) := by
  rw [bigSep_univ_sum, bigSep_univ_sum]; rfl

omit [FloatOps F] in
theorem bigSep_cl (Φ : Cl → sProp 𝕄) : bigSep Finset.univ Φ = iprop(Φ none ∗ (bigSep Finset.univ fun t : T => Φ (some (.inl t)))
    ∗ (bigSep Finset.univ fun t : T => Φ (some (.inr (.inl t)))) ∗ bigSep Finset.univ fun i : Fin 10 => Φ (some (.inr (.inr i)))) := by
  rw [bigSep_univ_at _ (none : Cl), show ((Finset.univ : Finset Cl).erase none) = Finset.univ.map Function.Embedding.some from by
    ext k; cases k <;> simp, bigSep_map, bigSep_oc]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cl => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_oc]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄) = sems c := by
  unfold Pipeline.ownSems0 sems
  exact bigSep_oc fun k => semVal ((c : Thread nD τ), osem k) 0

omit [FloatOps F] in
/-- The barrier semaphore is the one the kernel does not scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cl => semVal (kcell (c, k)) 0 : sProp 𝕄) := by
  rw [ownSems0_eq, unscopedSems0_eq, bigSep_cl]
  unfold sems
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cl => semVal (kcell (c, k)) 0) ∗ bigSep Finset.univ fun k : Cl => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Cl → ℕ) (c : Dev nD) : iprop(recs m K ∗ places c ∗ payToks c) ⊢ G' m c := by
  unfold G'
  iintro H
  iexists K
  iexact H

omit [FloatOps F] in
/-- Each device's tokens for its neighbours' payments, handed to the neighbour that pays. -/
theorem deal {ι : Type} [Fintype ι] [DecidableEq ι] (f : ι → Dev nD → Dev nD) (hf : ∀ i c, f i (f i c) = c) (Φ : Dev nD → ι → sProp 𝕄) :
    (bigSep Finset.univ fun c => bigSep Finset.univ fun i => Φ c i) = bigSep Finset.univ fun c => bigSep Finset.univ fun i => Φ (f i c) i := by
  rw [bigSep_univ_comm (fun c i => Φ c i), bigSep_univ_comm (fun c i => Φ (f i c) i)]
  exact bigSep_congr fun i _ => bigSep_univ_equiv ⟨f i, f i, hf i, hf i⟩ fun c => Φ c i

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    deal peer peer_peer (fun (c : Dev nD) (d : Ax) => (dutyTok ER (barCell c) 0 d : sProp 𝕄)),
    deal dest (fun t c => peer_peer (ax t) c) (fun (c : Dev nD) (t : T) => (dutyTok ER (rcvCell c t) 0 0 : sProp 𝕄))]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Cl => iprop(∃ κ : ℕ, cellInv ER (Rd m) κ (kcell ck))),
    bigSep_congr (s := Finset.univ) (fun (c : Dev nD) _ => bigSep_sep' Finset.univ (fun k : Cl => (atPos ER (kcell (c, k)) 0 ∅ 0 : sProp 𝕄)) (fun k => reached ER (kcell (c, k)) 0)),
    bigSep_sep', ← bigSep_univ_prod (fun ck : Dev nD × Cl => (reached ER (kcell ck) 0 : sProp 𝕄))]
  iintro ⟨HI, ⟨Hat, #HR⟩, Htok⟩
  ihave HK := (BI.bigSep_exists_pi Finset.univ (fun (ck : Dev nD × Cl) (κ : ℕ) => (cellInv ER (Rd m) κ (kcell ck) : sProp 𝕄))) $$ HI
  icases HK with ⟨%K, #HI⟩
  ihave Htk := (toks_around (F := F)) $$ Htok
  iapply (bigSep_with_persistent (R := recs m K) fun c _ => ghost_intro m K c)
  isplitr
  · unfold recs
    iapply (Entails.of_eq (bigSep_sep' Finset.univ (fun ck : Dev nD × Cl => (cellInv ER (Rd m) (K ck) (kcell ck) : sProp 𝕄)) fun ck => reached ER (kcell ck) 0).symm)
    isplitl; · iexact HI
    iexact HR
  · iapply ((Entails.of_eq (bigSep_sep' Finset.univ (fun c : Dev nD => bigSep Finset.univ fun k : Cl => (atPos ER (kcell (c, k)) 0 ∅ 0 : sProp 𝕄)) payToks).symm).trans
      (bigSep_mono fun c _ => show _ ⊢ iprop(places c ∗ payToks c) from Entails.of_eq (by unfold places; rw [bigSep_cl])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
/-- The credit the launch gives a device: what its neighbours owe its cells. -/
theorem creds (c : Dev nD) :
    (Pipeline.launchCred O₀ c : sProp 𝕄) ⊢ iprop(cred (tallyAt (barCell c) () 3) ∗ bigSep Finset.univ fun t : T => cred (tallyAt (rcvCell c t) () (NT t))) := by
  have hO : (O₀ : Dev nD → CellTallies nD τ sig Unit) = fun d => (((∑ t : T, dueT d t) + tallyAt (barCell (peer 2 d)) () 1) + tallyAt (barCell (peer 1 d)) () 1) + tallyAt (barCell (peer 0 d)) () 1 :=
    funext fun d => by unfold O₀ owe; rw [Finset.filter_true_of_mem fun t _ => Nat.zero_le _]
  rw [hO, Pipeline.launchCred_add, Pipeline.launchCred_add, Pipeline.launchCred_add, Pipeline.launchCred_sum]
  have hb : ∀ d : Ax, (Pipeline.launchCred (fun c : Dev nD => tallyAt (barCell (peer d c)) () 1) c : sProp 𝕄) ⊢ cred (tallyAt (barCell c) () 1) :=
    fun d => Pipeline.launchCred_tallyAt (.reg barS) (peer d) (peer d) (peer_peer d) (peer_peer d) () 1 c
  have hr : (bigSep Finset.univ fun t : T => (Pipeline.launchCred (fun c => dueT c t) c : sProp 𝕄)) ⊢ bigSep Finset.univ fun t : T => cred (tallyAt (rcvCell c t) () (NT t)) :=
    bigSep_mono fun t _ => Pipeline.launchCred_tallyAt (.dma (rcvS t)) (dest t) (dest t) (peer_peer (ax t)) (peer_peer (ax t)) () (NT t) c
  have h3 : (tallyAt (barCell c) () 3 : CellTallies nD τ sig Unit) = (tallyAt (barCell c) () 1 + tallyAt (barCell c) () 1) + tallyAt (barCell c) () 1 := by
    rw [tallyAt_add, tallyAt_add]
  rw [h3]
  iintro ⟨⟨⟨HR, H2⟩, H1⟩, H0⟩
  isplitr [HR]
  · iapply (cred_add _ _).2
    isplitr [H0]
    · iapply (cred_add _ _).2
      isplitl [H2]
      · iapply (hb 2); iexact H2
      · iapply (hb 1); iexact H1
    · iapply (hb 0); iexact H0
  · iapply hr; iexact HR

/-! ### Side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hr : (Pipeline.unscopedRestP (Ix := Unit) (Name := ℕ) (U := UU) (Lvl := ℕ) Pipeline.Prefetch.none cfg0.spec c (fun b => m ((c : Thread nD τ).loc b)) : sProp 𝕄)
      = argBuf m c := Pipeline.unscopedRestP_eq_of_list spec0 c Pipeline.Prefetch.none _ [main_arg0] (by decide) (by decide)
  rw [hr]
  iintro ⟨HX, Hlev, Hcr, -, HG⟩
  ihave Hc := (creds (F := F) c) $$ Hcr
  icases Hc with ⟨H1, HN⟩
  imodintro
  unfold start
  isplitl
  · isplitl [HG]; · iexact HG
    isplitl [Hlev]; · iexact Hlev
    isplitl [H1]; · iexact H1
    isplitl [HN]; · iexact HN
    iexact HX
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop((unscopedSems0 c ∗ argBuf m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ bufs
  iintro H
  iexact H

omit [FloatOps F] in
theorem O₀_pos {c : Dev nD} {g : GSem nD τ sig} {u : Unit} (h : 0 < O₀ c g u) : ∃ d k, g = cell d k ∧ 0 < levC k := by
  by_cases ho : 0 < owe c 0 g u
  · obtain ⟨t, _, rfl⟩ := owe_pos ho
    exact ⟨dest t c, some (.inr (.inl t)), rfl, by cases t <;> simp [levC, levT]⟩
  · unfold O₀ at h
    rw [Pi.add_apply, Finsupp.add_apply, Pi.add_apply, Finsupp.add_apply, Pi.add_apply, Finsupp.add_apply, tallyAt_apply, tallyAt_apply, tallyAt_apply,
      Nat.eq_zero_of_not_pos ho] at h
    by_contra hn
    have hb : ∀ d : Ax, g ≠ barCell (peer d c) := fun d hg => hn ⟨peer d c, none, hg, Nat.one_pos⟩
    rw [if_neg (fun h' => hb 2 h'.1), if_neg (fun h' => hb 1 h'.1), if_neg (fun h' => hb 0 h'.1)] at h
    exact Nat.lt_irrefl 0 h

omit [FloatOps F] in
theorem mayWait_stage (c : Dev nD) (q : DmaSem sig) (hq : ∀ k : Cl, csem k ≠ .dma q) (O : CellTallies nD τ sig Unit) (hO : O = O₀ c ∨ O = 0) :
    (levAts L lv : sProp 𝕄) ⊢ MayWait (c : Thread nD τ) (.dma q) () O := by
  have hl : lv ((c : Thread nD τ), .dma q) () = 0 := by
    have : nameOf (.dma q : SemLoc sig) = none := by unfold nameOf; rw [dif_neg (fun ⟨k, hk⟩ => hq k hk)]
    show (match nameOf (.dma q : SemLoc sig) with | some k => levC k | none => 0) = 0
    rw [this]
  rcases hO with rfl | rfl
  · exact MayOwe.of_cut (L := L) (lev := lv) 0 (fun p hp => by rw [Finset.mem_singleton.mp hp, L_tc]; exact Finset.mem_singleton_self _)
      (fun g u hg => by obtain ⟨d, k, rfl, _⟩ := O₀_pos hg; rw [L_tc]; exact Finset.mem_singleton_self _)
      (fun p hp => by rw [Finset.mem_singleton.mp hp, hl])
      (fun g u hg => by obtain ⟨d, k, rfl, hk⟩ := O₀_pos hg; rw [lv_cell]; exact hk)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

/-- The buffers of the windows and of the operand after the run. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)

set_option maxRecDepth 100000 in
/-- Every weakly fair execution of the eight devices terminates; every final state holds the computed contents, the
    operands unchanged, and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ argBuf m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      iintro ⟨⟨Hu, HX⟩, -, HSI⟩
      ihave %hx := (SI_pointsTo_agree (st := s') (ℓ := (c : Thread nD τ).loc main_arg0) (I := Finset.univ) (q := fullShare) (f := Xm m c)) $$ [HSI HX]
      · isplitl [HSI] <;> iassumption
      imod (Pipeline.unscopedSems0_read (X := unscopedSems0 c) (c := c) fupd_intro s') $$ [Hu HSI] with ⟨%hs, HSI⟩
      · isplitl [Hu] <;> iassumption
      imodintro
      isplitr
      · ipureintro; exact ⟨hs, funext fun i => hx i (Finset.mem_univ i)⟩
      · iexact HSI)
    (hQ := fun _ h hs => ⟨fun c => ⟨fun w => (h c).1 w, (h c).2.2.2⟩, sem_eq_zero hs fun c => (h c).2.2.1⟩)

/-- The scale after the run is what it was. -/
theorem finalA_g (c : Dev nD) : finalA m ρ c (0 : Fin 2) = m ((c : Thread nD τ).loc main_arg1) :=
  (dats (F := F) m ρ 0 c).arrAt_in (0 : Fin 2) rfl _

/-- The result after the run. -/
theorem finalA_o (c : Dev nD) : finalA m ρ c (1 : Fin 2) = outC m c 4 := by
  have h : (win0_1.blk t0_0).view.read (Elt F) (finalA m ρ c (1 : Fin 2)) = outC m c 4 := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide +kernel, if_pos rfl]
    exact View.read_write_univ _ _
  rw [← h]
  exact (Memref.read_access_unit_zero (Elt F) main_v1 (funext fun a => Nat.zero_mul _) _ _).symm

end Cert.KernelIdealProof
-- ==== Proof.ReferenceValue.lean ====
module

public import proofs.«01_k».proof.Proof.Gen.ReferenceIdeal.Run
public import Idealize.ShloMosaic.Lib.Pointwise

@[expose] public section

noncomputable section

namespace Cert.ReferenceValue

open Idealize.ShloMosaic
open Cert.ReferenceIdeal Cert.ReferenceIdeal.Gen

/-! # The reference on the extended reals

The reference adds the two partial arrays, divides each row of the sum by the root of the mean of its squares plus a
small constant, and multiplies by the weights. Here that is read at one element, as a formula on extended reals. The
kernel multiplies by the reciprocal root in place of dividing by the root; the two agree on every row, whatever is in
it, because what is under the root is never zero and never negative. -/

/-- What stands under the root for a row `y`: the mean of its 2048 squares, plus the small constant. -/
def meanSq (y : Fin 2048 → EReal) : EReal :=
  Ideal.div (∑ k, y k * y k) (Ideal.ofBits .f32 0x45000000#32) + Ideal.ofBits .f32 0x358637BD#32

/-- Element `k` of a row `y` divided by its root mean square, times a weight `w`. -/
def normed (y : Fin 2048 → EReal) (w : EReal) (k : Fin 2048) : EReal := Ideal.div (y k) (Ideal.sqrt (meanSq y)) * w

/-- The divisor of the mean is 2048. -/
theorem ofBits_rowLength : Ideal.ofBits .f32 0x45000000#32 = ((2048 : ℝ) : EReal) := by
  simp [Ideal.ofBits, Ideal.ieee, -EReal.coe_mul]; norm_num

/-- The small constant is a positive number. -/
theorem ofBits_small_pos : 0 < Ideal.ofBits .f32 0x358637BD#32 := by
  simp [Ideal.ofBits, Ideal.ieee, -EReal.coe_mul]

/-- The square of an extended real is not negative. -/
theorem sq_nonneg' (x : EReal) : 0 ≤ x * x := by
  rcases le_total 0 x with h | h
  · exact EReal.mul_nonneg h h
  · have h' : 0 ≤ -x := EReal.neg_nonneg.mpr h
    have := EReal.mul_nonneg h' h'
    rwa [neg_mul_neg] at this

/-- What stands under the root is positive. -/
theorem meanSq_pos (y : Fin 2048 → EReal) : 0 < meanSq y := by
  have hs : 0 ≤ ∑ k, y k * y k := Finset.sum_nonneg fun k _ => sq_nonneg' (y k)
  have hd : 0 ≤ Ideal.div (∑ k, y k * y k) (Ideal.ofBits .f32 0x45000000#32) := by
    rw [ofBits_rowLength, Ideal.div_coe (by norm_num)]
    exact EReal.mul_nonneg hs (EReal.coe_nonneg.mpr (by norm_num))
  exact lt_of_lt_of_le ofBits_small_pos (le_add_of_nonneg_left hd)

/-- To divide by the root of a positive extended real is to multiply by its reciprocal root. -/
theorem div_sqrt {z : EReal} (hz : 0 < z) (x : EReal) : Ideal.div x (Ideal.sqrt z) = x * Ideal.rsqrt z := by
  induction z with
  | bot => exact absurd hz (by simp)
  | top => rw [Ideal.sqrt_top, Ideal.rsqrt_top, Ideal.div, if_neg (by simp), EReal.inv_top]
  | coe r =>
    have hr : 0 < r := EReal.coe_pos.mp hz
    have hq : Real.sqrt r ≠ 0 := (Real.sqrt_pos.mpr hr).ne'
    rw [Ideal.sqrt_coe, if_neg hr.not_gt, Ideal.rsqrt_coe, if_neg hr.not_gt, if_neg hr.ne', Ideal.div_coe hq, one_div]

/-- A row normalised by multiplications is the row normalised by divisions. -/
theorem normed_eq (y : Fin 2048 → EReal) (w : EReal) (k : Fin 2048) : y k * Ideal.rsqrt (meanSq y) * w = normed y w k := by
  rw [normed, div_sqrt (meanSq_pos y)]

/-- The reference's result, as the term of its arguments that its run leaves. -/
def result (X : S2x4096x2048.Idx → EReal) (G : S2048.Idx → EReal) : S4096x2048.Idx → EReal :=
  mulf (F := Ideal) (φ := .f32) (Host.divf (Host.reduceAdd X (constant S_ .f32 0x00000000#32) reducesTo_S2x4096x2048_S4096x2048_d0 h_S_)
    (broadcastInDim S4096x2048 ![0, 1] bcast_S4096x1_S4096x2048_0_1 (Host.sqrt (addf
      (Host.divf (broadcastInDim S4096x1 ![0] bcast_S4096_S4096x1_0 (Host.reduceAdd
          (mulf (Host.reduceAdd X (constant S_ .f32 0x00000000#32) reducesTo_S2x4096x2048_S4096x2048_d0 h_S_)
            (Host.reduceAdd X (constant S_ .f32 0x00000000#32) reducesTo_S2x4096x2048_S4096x2048_d0 h_S_))
          (constant S_ .f32 0x00000000#32) reducesTo_S4096x2048_S4096_d1 h_S_))
        (broadcastInDim S4096x1 ![] bcast_S_S4096x1 (constant S_ .f32 0x45000000#32)))
      (broadcastInDim S4096x1 ![] bcast_S_S4096x1 (constant S_ .f32 0x358637BD#32))))))
    (broadcastInDim S4096x2048 ![0, 1] bcast_S1x2048_S4096x2048_0_1 (broadcastInDim S1x2048 ![1] bcast_S2048_S1x2048_1 G))

/-- The reference's result at row `r`, column `k`: the sum of the two partial rows, normalised. -/
theorem result_apply (X : S2x4096x2048.Idx → EReal) (G : S2048.Idx → EReal) (r : Fin 4096) (k : Fin 2048) :
    result X G (ix2 r k) = normed (fun j => X (ix3 0 r j) + X (ix3 1 r j)) (G (ix1 k)) k := by
  pointwise [result]
  simp only [Fin.sum_univ_two]
  rfl

open Idealize.ShloMosaic.TcCoe Idealize.SL.Sem

/-- The reference ends with that result, and with its arguments as they were. -/
theorem reference_ends (m : (ℓ : Loc nD τ sig) → Buf (Elt Ideal) ℓ) (g : Dev nD → PrngReg) :
    θ_run (defs (F := Ideal)) (onTc (τ := τ) (main (F := Ideal))) ⟨m, fun _ => 0, g⟩ fun r =>
      r.2.mem (((0 : Dev nD).tc : Thread nD τ).loc main_v13)
        = result (m (((0 : Dev nD).tc : Thread nD τ).loc main_arg0)) (m (((0 : Dev nD).tc : Thread nD τ).loc main_arg1))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1) :=
  (θ_run defs _ _).mono (fun r h => h 0) (Value.run m g)

end Cert.ReferenceValue

end
-- ==== Proof.KernelIdealValue.lean ====
module

public import proofs.«01_k».proof.Proof.KernelIdealLaunch
public import proofs.«01_k».proof.Proof.ReferenceValue

@[expose] public section

noncomputable section

namespace Cert.KernelIdealValue

open Idealize.ShloMosaic
open Idealize.ShloMosaic.TcCoe
open Cert.KernelIdeal Cert.KernelIdeal.Gen
open Cert.KernelIdealProof (Xm gam Oc Rc Nc outC qrt pos pos_lt sdev peer)
open Cert.ReferenceValue (normed meanSq normed_eq result result_apply)

/-! # What the kernel computes is the reference's block

A device holds one of the two partial arrays, by its first mesh coordinate, and keeps half of the rows of the result.
Its own rows of its own partial array and the rows it received, which are the same rows of the other partial array,
add up to the rows of the reference's sum; the normalisation of a quarter is the reference's, row by row. -/

/-- The body's normalisation of a quarter, at an element: the row's sum normalised. -/
theorem pay_apply (g : S2048.Idx → EReal) (a b : S512x2048.Idx → EReal) (r : Fin 512) (k : Fin 2048) :
    k0_pay18 (F := Ideal) (k0_pay10 (F := Ideal) g) a b (ix2 r k)
      = normed (fun j => a (ix2 r j) + b (ix2 r j)) (g (ix1 k)) k := by
  rw [← normed_eq]
  pointwise [k0_pay18, k0_pay10]
  rfl

/-- The devices' operands are blocks of the whole array `X`: a device's is the one of its first mesh coordinate. -/
def Cut (m : (ℓ : Loc nD τ sig) → Buf (Elt Ideal) ℓ) (X : Cert.ReferenceIdeal.S2x4096x2048.Idx → EReal) : Prop :=
  ∀ (c : Dev nD) (q : S1x4096x2048.Idx), Xm m c q = X (ix3 ⟨c.val / 4, by have := c.isLt; simp only [nD] at this; omega⟩ (q 1) (q 2))

/-- A device's first mesh coordinate is its number divided by four. -/
theorem meshLin_first : ∀ c : Dev nD, Layout.meshLin [2, 2, 2] c.val [0] = c.val / 4 := by decide +kernel

theorem cut_of_block (m : (ℓ : Loc nD τ sig) → Buf (Elt Ideal) ℓ) (X : Cert.ReferenceIdeal.S2x4096x2048.Idx → EReal)
    (h : ∀ c : Dev nD, m ((c.tc : Thread nD τ).loc main_arg0)
      = Layout.blockN ⟨3, ![1, 4096, 2048]⟩ ⟨3, ![2, 4096, 2048]⟩ (Layout.meshBlock [2, 2, 2] ![[0], [], []] c) X) : Cut m X := by
  intro c q
  refine (congrFun (h c) q).trans ?_
  refine congrArg X (funext fun a => Fin.ext ?_)
  match a with
  | ⟨0, _⟩ =>
    show Layout.meshLin [2, 2, 2] c.val [0] * 1 + (q 0).val = c.val / 4
    have h0 : (q 0).val < 1 := (q 0).isLt
    rw [meshLin_first]; omega
  | ⟨1, _⟩ => show 0 * 4096 + (q 1).val = (q 1).val; omega
  | ⟨2, _⟩ => show 0 * 2048 + (q 2).val = (q 2).val; omega

/-- The rows a device received come from a device of the other first mesh coordinate. -/
theorem sdev_first : ∀ (c : Dev nD) (r : ℕ), (sdev c r).val / 4 = 1 - c.val / 4 := by
  intro c r
  have hc : c.val < 8 := c.isLt
  rcases Classical.em (r / 512 = 3 - c.val % 4 ∧ (r % 512) / 64 < 3) with h | h
  · rw [sdev, if_pos h]
    show ((2 * ((c.val / 2) % 2) + c.val % 2 + 4) - 4 * (c.val / 4)) / 4 = _
    omega
  · rw [sdev, if_neg h]
    show (4 * (1 - c.val / 4) + r / 512 % 4) / 4 = _
    omega

variable {m : (ℓ : Loc nD τ sig) → Buf (Elt Ideal) ℓ} {X : Cert.ReferenceIdeal.S2x4096x2048.Idx → EReal}

/-- A device's own row and the row it received add up to the row of the reference's sum. -/
theorem row_sum (hX : Cut m X) (c : Dev nD) (i : S2048x2048.Idx) (R : Fin 4096) (hR : R.val = 2048 * (c.val / 4) + (i 0).val) :
    Oc m c i + Rc m c i = X (ix3 0 R (i 1)) + X (ix3 1 R (i 1)) := by
  have hc : c.val < 8 := c.isLt
  have hrow : ∀ (d : Dev nD) (e : Fin 2), d.val / 4 = e.val →
      Xm m d (Cert.KernelIdealProof.ix3 (2048 * (c.val / 4) + (i 0).val) (i 1)) = X (ix3 e R (i 1)) := by
    intro d e he
    rw [hX]
    refine congrArg X (funext fun a => Fin.ext ?_)
    match a with
    | ⟨0, _⟩ => exact he
    | ⟨1, _⟩ =>
      show (2048 * (c.val / 4) + (i 0).val) % 4096 = R.val
      rw [← hR]; exact Nat.mod_eq_of_lt R.isLt
    | ⟨2, _⟩ => rfl
  have ho : Oc m c i = Xm m c (Cert.KernelIdealProof.ix3 (2048 * (c.val / 4) + (i 0).val) (i 1)) := rfl
  have hr : Rc m c i = Xm m (sdev c (i 0).val) (Cert.KernelIdealProof.ix3 (2048 * (c.val / 4) + (i 0).val) (i 1)) := rfl
  have hs := sdev_first c (i 0).val
  rw [ho, hr]
  rcases (by omega : c.val / 4 = 0 ∨ c.val / 4 = 1) with h | h
  · rw [hrow c 0 h, hrow _ 1 (by rw [hs, h]; rfl)]
  · rw [hrow c 1 h, hrow _ 0 (by rw [hs, h]; rfl)]; exact add_comm _ _

/-- A device's result is its half of the rows of the reference's result. -/
theorem outC_eq (hX : Cut m X) (c : Dev nD) (i : S2048x2048.Idx) (R : Fin 4096) (hR : R.val = 2048 * (c.val / 4) + (i 0).val) :
    outC m c 4 i = result X (gam m c) (ix2 R (i 1)) := by
  have hi : (i 0).val < 2048 := (i 0).isLt
  refine Eq.trans ?_ (result_apply X (gam m c) R (i 1)).symm
  show (if pos c ((i 0).val / 512) < 4 then _ else _) = _
  rw [if_pos (pos_lt c _)]
  have hp : (Cert.KernelIdealProof.ix2 (R := 512) ((i 0).val % 512) (i 1)) = ix2 (⟨(i 0).val % 512, Nat.mod_lt _ (by decide)⟩ : Fin 512) (i 1) :=
    Cert.KernelIdealProof.ix2_eta _ _ _ rfl rfl
  rw [hp]
  refine (pay_apply _ _ _ _ _).trans ?_
  refine congrArg (fun y => normed y (gam m c (ix1 (i 1))) (i 1)) (funext fun j => ?_)
  refine row_sum hX c (Cert.KernelIdealProof.ix2 (R := 2048) (512 * ((i 0).val / 512) + (i 0).val % 512) j) R ?_
  show R.val = 2048 * (c.val / 4) + (512 * ((i 0).val / 512) + (i 0).val % 512) % 2048
  omega

/-- The same, of a device's whole result: it is the block of the reference's result that the mesh gives the device. -/
theorem outC_block (hX : Cut m X) (c : Dev nD) :
    outC m c 4 = Layout.blockN ⟨2, ![2048, 2048]⟩ ⟨2, ![4096, 2048]⟩ (Layout.meshBlock [2, 2, 2] ![[0], []] c) (result X (gam m c)) := by
  funext i
  have hc : c.val < 8 := c.isLt
  have hi : (i 0).val < 2048 := (i 0).isLt
  refine (outC_eq hX c i ⟨2048 * (c.val / 4) + (i 0).val, by omega⟩ rfl).trans ?_
  refine congrArg (result X (gam m c)) (funext fun a => Fin.ext ?_)
  match a with
  | ⟨0, _⟩ =>
    show 2048 * (c.val / 4) + (i 0).val = Layout.meshLin [2, 2, 2] c.val [0] * 2048 + (i 0).val
    rw [meshLin_first]; omega
  | ⟨1, _⟩ => show (i 1).val = 0 * 2048 + (i 1).val; omega

end Cert.KernelIdealValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.ReferenceValue
public import proofs.«01_k».proof.Proof.KernelIdealValue
public import Idealize.ShloMosaic.Adequacy
public import Idealize.ShloMosaic.Init

@[expose] public section

noncomputable section

namespace Cert.Proof

open Idealize.ShloMosaic Idealize.SL.Sem Cert.Kernel

/-- The kernel on bit-exact floats: it terminates, its operands end unchanged, and every counter is back at zero. -/
theorem frame_kernel : Cert.quiescent_Kernel := by
  intro m g _
  exact (θ_run Cert.Kernel.defs _ _).mono
    (fun _ h => ⟨fun c => ⟨(h.1 c).2, ((h.1 c).1 (0 : Fin 2)).trans (Cert.KernelProof.finalA_g m g c)⟩, h.2⟩)
    (Cert.KernelProof.run_main (F := Bits) m g)

/-- The same of the kernel on the extended reals. -/
theorem frame_ideal : Cert.quiescent_KernelIdeal := by
  intro m g _
  exact (θ_run Cert.KernelIdeal.defs _ _).mono
    (fun _ h => ⟨fun c => ⟨(h.1 c).2, ((h.1 c).1 (0 : Fin 2)).trans (Cert.KernelIdealProof.finalA_g m g c)⟩, h.2⟩)
    (Cert.KernelIdealProof.run_main (F := Ideal) m g)

/-- The same of the reference, which declares no semaphore. -/
theorem frame_reference : Cert.quiescent_ReferenceIdeal := by
  intro m g _
  exact (θ_run Cert.ReferenceIdeal.defs _ _).mono
    (fun r h => ⟨fun c => (h c).2, sem_eq_zero_of_no_sems (by decide) r.2⟩)
    (Cert.ReferenceIdeal.Value.run (F := Ideal) m g)

/-- On the extended reals, from operands that are the blocks of the reference's arguments, each device's result is its
block of the reference's result. -/
theorem value : Cert.algebraic_KernelIdeal_ReferenceIdeal := by
  intro m g m' g' _ hagree
  have hX := Cert.KernelIdealValue.cut_of_block m _ fun c => (hagree c).1
  refine ⟨_, ?_, Cert.ReferenceValue.reference_ends m' g'⟩
  refine (θ_run Cert.KernelIdeal.defs _ _).mono (fun r h c => ⟨?_, (h.1 c).2,
    ((h.1 c).1 (0 : Fin 2)).trans (Cert.KernelIdealProof.finalA_g m g c)⟩) (Cert.KernelIdealProof.run_main (F := Ideal) m g)
  refine ((h.1 c).1 (1 : Fin 2)).trans ((Cert.KernelIdealProof.finalA_o m g c).trans ?_)
  refine (Cert.KernelIdealValue.outC_block hX c).trans ?_
  exact congrArg (fun G => Layout.blockN ⟨2, ![2048, 2048]⟩ ⟨2, ![4096, 2048]⟩ (Layout.meshBlock [2, 2, 2] ![[0], []] c)
    (Cert.ReferenceValue.result _ G)) (hagree c).2

theorem claim : Cert.Claim :=
  ⟨Cert.Kernel.Gen.facts, Cert.KernelIdeal.Gen.facts, Cert.ReferenceIdeal.Gen.facts,
    frame_kernel, frame_ideal, frame_reference, trivial, value⟩

end Cert.Proof

end
